-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S32768x256 : Shape := ⟨2, ![32768, 256]⟩
abbrev S16 : Shape := ⟨1, ![16]⟩
abbrev S32x256 : Shape := ⟨2, ![32, 256]⟩
abbrev S32 : Shape := ⟨1, ![32]⟩
abbrev S1x32 : Shape := ⟨2, ![1, 32]⟩
abbrev S1 : Shape := ⟨1, ![1]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S32x256 : S_.BroadcastsInDim S32x256 (![] : Fin 0 → Fin S32x256.rank)
  reducesTo_S32x256_S_d0_1 : S32x256.ReducesTo [0, 1] S_
  bcast_S_S32 : S_.BroadcastsInDim S32 (![] : Fin 0 → Fin S32.rank)
  reducesTo_S32_S_d0 : S32.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_
  bcast_S_S16 : S_.BroadcastsInDim S16 (![] : Fin 0 → Fin S16.rank)
  reducesTo_S16_S_d0 : S16.ReducesTo [0] S_

variable [Facts]

def fn_part2 {F : FTy → Type} [FloatOps F] (main_arg1 : IVec S16 32) (main_v33 : IVec S_ 1) : IVec S_ 1 :=
  let main_c_12 : IVec S_ 32 := constantI S_ 32 0#32
  let main_v34 : IVec S16 32 := broadcastInDim S16 ![] bcast_S_S16 main_c_12
  let main_v35 : IVec S16 1 := cmpi .sge main_arg1 main_v34
  let main_c_13 : IVec S_ 32 := constantI S_ 32 134217728#32
  let main_v36 : IVec S16 32 := broadcastInDim S16 ![] bcast_S_S16 main_c_13
  let main_v37 : IVec S16 1 := cmpi .slt main_arg1 main_v36
  let main_v38 : IVec S16 1 := andi main_v35 main_v37
  let main_c_14 : IVec S_ 1 := constantI S_ 1 1#1
  let main_v39 : IVec S_ 1 := (fun x v => Host.reduce IntOp.andi x v reducesTo_S16_S_d0 h_S_) main_v38 main_c_14
  let main_v40 : IVec S_ 1 := andi main_v33 main_v39
  main_v40

def fn_part1 {F : FTy → Type} [FloatOps F] (main_arg1 : IVec S16 32) (main_arg5 : FVec F S1 .f32) (main_arg6 : FVec F S1x32 .f32) (main_arg7 : FVec F S1 .f32) (main_v13 : IVec S_ 1) (main_v16 : IVec S1x32 1) : IVec S_ 1 :=
  let main_c_5 : IVec S_ 1 := constantI S_ 1 1#1
  let main_v17 : IVec S_ 1 := (fun x v => Host.reduce IntOp.andi x v reducesTo_S1x32_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1x32 .f32 := Host.absf main_arg6
  let main_cst_8 : FVec F S_ .f32 := constant S_ .f32 0x7F800000#32
  let main_v25 : FVec F S1x32 .f32 := broadcastInDim S1x32 ![] bcast_S_S1x32 main_cst_8
  let main_v26 : IVec S1x32 1 := cmpf .olt main_v24 main_v25
  let main_c_9 : IVec S_ 1 := constantI S_ 1 1#1
  let main_v27 : IVec S_ 1 := (fun x v => Host.reduce IntOp.andi x v reducesTo_S1x32_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg1 main_v33

def fn {F : FTy → Type} [FloatOps F] (main_arg0 : FVec F S32768x256 .f32) (main_arg1 : IVec S16 32) (main_arg2 : FVec F S32x256 .f32) (main_arg3 : FVec F S32 .f32) (main_arg4 : FVec F S1x32 .f32) (main_arg5 : FVec F S1 .f32) (main_arg6 : FVec F S1x32 .f32) (main_arg7 : FVec F S1 .f32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S32x256 .f32 := Host.absf main_arg2
  let main_cst_0 : FVec F S_ .f32 := constant S_ .f32 0x7F800000#32
  let main_v5 : FVec F S32x256 .f32 := broadcastInDim S32x256 ![] bcast_S_S32x256 main_cst_0
  let main_v6 : IVec S32x256 1 := cmpf .olt main_v4 main_v5
  let main_c_1 : IVec S_ 1 := constantI S_ 1 1#1
  let main_v7 : IVec S_ 1 := (fun x v => Host.reduce IntOp.andi x v reducesTo_S32x256_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S1x32 .f32 := Host.absf main_arg4
  let main_cst_4 : FVec F S_ .f32 := constant S_ .f32 0x7F800000#32
  let main_v15 : FVec F S1x32 .f32 := broadcastInDim S1x32 ![] bcast_S_S1x32 main_cst_4
  let main_v16 : IVec S1x32 1 := cmpf .olt main_v14 main_v15
  fn_part1 (F := F) main_arg1 main_arg5 main_arg6 main_arg7 main_v13 main_v16
-- ==== Kernel.lean ====
abbrev S32768x256 : Shape := ⟨2, ![32768, 256]⟩
abbrev S16 : Shape := ⟨1, ![16]⟩
abbrev S32x256 : Shape := ⟨2, ![32, 256]⟩
abbrev S32 : Shape := ⟨1, ![32]⟩
abbrev S1x32 : Shape := ⟨2, ![1, 32]⟩
abbrev S1 : Shape := ⟨1, ![1]⟩
abbrev S_ : Shape := ⟨0, ![]⟩
abbrev S17 : Shape := ⟨1, ![17]⟩
abbrev S16x1 : Shape := ⟨2, ![16, 1]⟩
abbrev S32x1 : Shape := ⟨2, ![32, 1]⟩
abbrev S2x32 : Shape := ⟨2, ![2, 32]⟩
abbrev S2 : Shape := ⟨1, ![2]⟩
abbrev S2x1 : Shape := ⟨2, ![2, 1]⟩
abbrev S4x4096x256 : Shape := ⟨3, ![4, 4096, 256]⟩
abbrev S4 : Shape := ⟨1, ![4]⟩
abbrev S1x4096x256 : Shape := ⟨3, ![1, 4096, 256]⟩
abbrev S4096x256 : Shape := ⟨2, ![4096, 256]⟩
abbrev S16x4096 : Shape := ⟨2, ![16, 4096]⟩
abbrev S32x4096 : Shape := ⟨2, ![32, 4096]⟩
abbrev S2x4096 : Shape := ⟨2, ![2, 4096]⟩
abbrev S1x4096 : Shape := ⟨2, ![1, 4096]⟩
abbrev S1x1 : Shape := ⟨2, ![1, 1]⟩
abbrev S15x1 : Shape := ⟨2, ![15, 1]⟩

abbrev nBuf : Space → Nat
  | .hbm => 28
  | .vmem => 8
  | .smem => 0
  | _ => 0

abbrev bufTy : (tb : Table) → Fin (tcTables nBuf tb) → BufTy
  | .hbm, ⟨0, _⟩ => ⟨S32768x256, .f32⟩
  | .hbm, ⟨1, _⟩ => ⟨S16, .i32⟩
  | .hbm, ⟨2, _⟩ => ⟨S32x256, .f32⟩
  | .hbm, ⟨3, _⟩ => ⟨S32, .f32⟩
  | .hbm, ⟨4, _⟩ => ⟨S1x32, .f32⟩
  | .hbm, ⟨5, _⟩ => ⟨S1, .f32⟩
  | .hbm, ⟨6, _⟩ => ⟨S1x32, .f32⟩
  | .hbm, ⟨7, _⟩ => ⟨S1, .f32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S_, .i32⟩
  | .hbm, ⟨12, _⟩ => ⟨S16, .i32⟩
  | .hbm, ⟨13, _⟩ => ⟨S17, .i32⟩
  | .hbm, ⟨14, _⟩ => ⟨S16, .i32⟩
  | .hbm, ⟨15, _⟩ => ⟨S16x1, .i32⟩
  | .hbm, ⟨16, _⟩ => ⟨S16, .i32⟩
  | .hbm, ⟨17, _⟩ => ⟨S16x1, .i32⟩
  | .hbm, ⟨18, _⟩ => ⟨S32x1, .f32⟩
  | .hbm, ⟨19, _⟩ => ⟨S2x32, .f32⟩
  | .hbm, ⟨20, _⟩ => ⟨S_, .f32⟩
  | .hbm, ⟨21, _⟩ => ⟨S_, .f32⟩
  | .hbm, ⟨22, _⟩ => ⟨S1, .f32⟩
  | .hbm, ⟨23, _⟩ => ⟨S1, .f32⟩
  | .hbm, ⟨24, _⟩ => ⟨S2, .f32⟩
  | .hbm, ⟨25, _⟩ => ⟨S2x1, .f32⟩
  | .hbm, ⟨26, _⟩ => ⟨S16x1, .f32⟩
  | .hbm, ⟨27, _⟩ => ⟨S16, .f32⟩
  | .local _ .vmem, ⟨0, _⟩ => ⟨S16x1, .i32⟩
  | .local _ .vmem, ⟨1, _⟩ => ⟨S16x1, .i32⟩
  | .local _ .vmem, ⟨2, _⟩ => ⟨S32x256, .f32⟩
  | .local _ .vmem, ⟨3, _⟩ => ⟨S32x1, .f32⟩
  | .local _ .vmem, ⟨4, _⟩ => ⟨S2x32, .f32⟩
  | .local _ .vmem, ⟨5, _⟩ => ⟨S2x1, .f32⟩
  | .local _ .vmem, ⟨6, _⟩ => ⟨S16x1, .f32⟩
  | .local _ .vmem, ⟨7, _⟩ => ⟨S4x4096x256, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_call0_call0_c : Ref sig .tc := ⟨.hbm, 10, rfl⟩
abbrev main_call0_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S32768x256 : Shape := ⟨2, ![32768, 256]⟩
abbrev S16 : Shape := ⟨1, ![16]⟩
abbrev S32x256 : Shape := ⟨2, ![32, 256]⟩
abbrev S32 : Shape := ⟨1, ![32]⟩
abbrev S1x32 : Shape := ⟨2, ![1, 32]⟩
abbrev S1 : Shape := ⟨1, ![1]⟩
abbrev S256x32 : Shape := ⟨2, ![256, 32]⟩
abbrev S32768x32 : Shape := ⟨2, ![32768, 32]⟩
abbrev S_ : Shape := ⟨0, ![]⟩
abbrev S32x1 : Shape := ⟨2, ![32, 1]⟩
abbrev S32768x1 : Shape := ⟨2, ![32768, 1]⟩
abbrev S1x1 : Shape := ⟨2, ![1, 1]⟩
abbrev S32768 : Shape := ⟨1, ![32768]⟩
abbrev S17 : Shape := ⟨1, ![17]⟩
abbrev S1x32768 : Shape := ⟨2, ![1, 32768]⟩
abbrev S16x1 : Shape := ⟨2, ![16, 1]⟩
abbrev S16x32768 : Shape := ⟨2, ![16, 32768]⟩

abbrev nBuf : Space → Nat
  | .hbm => 97
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S16, .i32⟩
  | .hbm, ⟨2, _⟩ => ⟨S32x256, .f32⟩
  | .hbm, ⟨3, _⟩ => ⟨S32, .f32⟩
  | .hbm, ⟨4, _⟩ => ⟨S1x32, .f32⟩
  | .hbm, ⟨5, _⟩ => ⟨S1, .f32⟩
  | .hbm, ⟨6, _⟩ => ⟨S1x32, .f32⟩
  | .hbm, ⟨7, _⟩ => ⟨S1, .f32⟩
  | .hbm, ⟨8, _⟩ => ⟨S256x32, .f32⟩
  | .hbm, ⟨9, _⟩ => ⟨S32768x32, .f32⟩
  | .hbm, ⟨10, _⟩ => ⟨S1x32, .f32⟩
  | .hbm, ⟨11, _⟩ => ⟨S32768x32, .f32⟩
  | .hbm, ⟨12, _⟩ => ⟨S32768x32, .f32⟩
  | .hbm, ⟨13, _⟩ => ⟨S_, .f32⟩
  | .hbm, ⟨14, _⟩ => ⟨S32768x32, .f32⟩
  | .hbm, ⟨15, _⟩ => ⟨S32768x32, .f32⟩
  | .hbm, ⟨16, _⟩ => ⟨S32x1, .f32⟩
  | .hbm, ⟨17, _⟩ => ⟨S32768x1, .f32⟩
  | .hbm, ⟨18, _⟩ => ⟨S1x1, .f32⟩
  | .hbm, ⟨19, _⟩ => ⟨S32768x1, .f32⟩
  | .hbm, ⟨20, _⟩ => ⟨S32768x1, .f32⟩
  | .hbm, ⟨21, _⟩ => ⟨S32768, .f32⟩
  | .hbm, ⟨22, _⟩ => ⟨S32x1, .f32⟩
  | .hbm, ⟨23, _⟩ => ⟨S32768x1, .f32⟩
  | .hbm, ⟨24, _⟩ => ⟨S1x1, .f32⟩
  | .hbm, ⟨25, _⟩ => ⟨S32768x1, .f32⟩
  | .hbm, ⟨26, _⟩ => ⟨S32768x1, .f32⟩
  | .hbm, ⟨27, _⟩ => ⟨S32768, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S_, .i32⟩
  | .hbm, ⟨32, _⟩ => ⟨S16, .i32⟩
  | .hbm, ⟨33, _⟩ => ⟨S17, .i32⟩
  | .hbm, ⟨34, _⟩ => ⟨S16, .i32⟩
  | .hbm, ⟨35, _⟩ => ⟨S16, .i32⟩
  | .hbm, ⟨36, _⟩ => ⟨S32768, .i32⟩
  | .hbm, ⟨37, _⟩ => ⟨S1x32768, .i32⟩
  | .hbm, ⟨38, _⟩ => ⟨S16x1, .i32⟩
  | .hbm, ⟨39, _⟩ => ⟨S16x32768, .i32⟩
  | .hbm, ⟨40, _⟩ => ⟨S16x32768, .i32⟩
  | .hbm, ⟨41, _⟩ => ⟨S16x32768, .i1⟩
  | .hbm, ⟨42, _⟩ => ⟨S1x32768, .i32⟩
  | .hbm, ⟨43, _⟩ => ⟨S16x1, .i32⟩
  | .hbm, ⟨44, _⟩ => ⟨S16x32768, .i32⟩
  | .hbm, ⟨45, _⟩ => ⟨S16x32768, .i32⟩
  | .hbm, ⟨46, _⟩ => ⟨S16x32768, .i1⟩
  | .hbm, ⟨47, _⟩ => ⟨S16x32768, .i1⟩
  | .hbm, ⟨48, _⟩ => ⟨S1x32768, .f32⟩
  | .hbm, ⟨49, _⟩ => ⟨S_, .f32⟩
  | .hbm, ⟨50, _⟩ => ⟨S_, .f32⟩
  | .hbm, ⟨51, _⟩ => ⟨S16x32768, .f32⟩
  | .hbm, ⟨52, _⟩ => ⟨S16x32768, .f32⟩
  | .hbm, ⟨53, _⟩ => ⟨S16x32768, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S_, .f32⟩
  | .hbm, ⟨58, _⟩ => ⟨S16, .f32⟩
  | .hbm, ⟨59, _⟩ => ⟨S16, .i1⟩
  | .hbm, ⟨60, _⟩ => ⟨S_, .f32⟩
  | .hbm, ⟨61, _⟩ => ⟨S_, .f32⟩
  | .hbm, ⟨62, _⟩ => ⟨S16, .f32⟩
  | .hbm, ⟨63, _⟩ => ⟨S16, .f32⟩
  | .hbm, ⟨64, _⟩ => ⟨S16x1, .f32⟩
  | .hbm, ⟨65, _⟩ => ⟨S16x32768, .f32⟩
  | .hbm, ⟨66, _⟩ => ⟨S16x32768, .f32⟩
  | .hbm, ⟨67, _⟩ => ⟨S16x32768, .f32⟩
  | .hbm, ⟨68, _⟩ => ⟨S_, .f32⟩
  | .hbm, ⟨69, _⟩ => ⟨S_, .f32⟩
  | .hbm, ⟨70, _⟩ => ⟨S16x32768, .f32⟩
  | .hbm, ⟨71, _⟩ => ⟨S16x32768, .f32⟩
  | .hbm, ⟨72, _⟩ => ⟨S_, .f32⟩
  | .hbm, ⟨73, _⟩ => ⟨S16, .f32⟩
  | .hbm, ⟨74, _⟩ => ⟨S_, .f32⟩
  | .hbm, ⟨75, _⟩ => ⟨S16, .f32⟩
  | .hbm, ⟨76, _⟩ => ⟨S16, .i1⟩
  | .hbm, ⟨77, _⟩ => ⟨S_, .f32⟩
  | .hbm, ⟨78, _⟩ => ⟨S_, .f32⟩
  | .hbm, ⟨79, _⟩ => ⟨S16, .f32⟩
  | .hbm, ⟨80, _⟩ => ⟨S16, .f32⟩
  | .hbm, ⟨81, _⟩ => ⟨S16x1, .f32⟩
  | .hbm, ⟨82, _⟩ => ⟨S16x32768, .f32⟩
  | .hbm, ⟨83, _⟩ => ⟨S16x32768, .f32⟩
  | .hbm, ⟨84, _⟩ => ⟨S1x32768, .f32⟩
  | .hbm, ⟨85, _⟩ => ⟨S16x32768, .f32⟩
  | .hbm, ⟨86, _⟩ => ⟨S16x32768, .f32⟩
  | .hbm, ⟨87, _⟩ => ⟨S_, .f32⟩
  | .hbm, ⟨88, _⟩ => ⟨S16, .f32⟩
  | .hbm, ⟨89, _⟩ => ⟨S16, .i1⟩
  | .hbm, ⟨90, _⟩ => ⟨S_, .f32⟩
  | .hbm, ⟨91, _⟩ => ⟨S_, .f32⟩
  | .hbm, ⟨92, _⟩ => ⟨S16, .f32⟩
  | .hbm, ⟨93, _⟩ => ⟨S16, .f32⟩
  | .hbm, ⟨94, _⟩ => ⟨S_, .f32⟩
  | .hbm, ⟨95, _⟩ => ⟨S16, .f32⟩
  | .hbm, ⟨96, _⟩ => ⟨S16, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_call1_call0_c : Ref sig .tc := ⟨.hbm, 30, rfl⟩
abbrev main_call1_call0_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_v36 : Ref sig .tc := ⟨.hbm, 53, rfl⟩
abbrev main_cst_0 : Ref sig .tc := ⟨.hbm, 54, rfl⟩
abbrev main_v37 : Ref sig .tc := ⟨.hbm, 55, rfl⟩
abbrev main_v38 : Ref sig .tc := ⟨.hbm, 56, rfl⟩
abbrev main_cst_1 : Ref sig .tc := ⟨.hbm, 57, rfl⟩
abbrev main_v39 : Ref sig .tc := ⟨.hbm, 58, rfl⟩
abbrev main_v40 : Ref sig .tc := ⟨.hbm, 59, rfl⟩
abbrev main_cst_2 : Ref sig .tc := ⟨.hbm, 60, rfl⟩
abbrev main_call3_v0 : Ref sig .tc := ⟨.hbm, 61, rfl⟩
abbrev main_call3_v1 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_3 : Ref sig .tc := ⟨.hbm, 68, rfl⟩
abbrev main_call4_v0 : Ref sig .tc := ⟨.hbm, 69, rfl⟩
abbrev main_call4_v1 : Ref sig .tc := ⟨.hbm, 70, rfl⟩
abbrev main_v46 : Ref sig .tc := ⟨.hbm, 71, rfl⟩
abbrev main_cst_4 : Ref sig .tc := ⟨.hbm, 72, rfl⟩
abbrev main_v47 : Ref sig .tc := ⟨.hbm, 73, rfl⟩
abbrev main_cst_5 : Ref sig .tc := ⟨.hbm, 74, rfl⟩
abbrev main_v48 : Ref sig .tc := ⟨.hbm, 75, rfl⟩
abbrev main_v49 : Ref sig .tc := ⟨.hbm, 76, rfl⟩
abbrev main_cst_6 : Ref sig .tc := ⟨.hbm, 77, rfl⟩
abbrev main_call5_v0 : Ref sig .tc := ⟨.hbm, 78, rfl⟩
abbrev main_call5_v1 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_7 : Ref sig .tc := ⟨.hbm, 87, rfl⟩
abbrev main_v57 : Ref sig .tc := ⟨.hbm, 88, rfl⟩
abbrev main_v58 : Ref sig .tc := ⟨.hbm, 89, rfl⟩
abbrev main_cst_8 : Ref sig .tc := ⟨.hbm, 90, rfl⟩
abbrev main_call6_v0 : Ref sig .tc := ⟨.hbm, 91, rfl⟩
abbrev main_call6_v1 : Ref sig .tc := ⟨.hbm, 92, rfl⟩
abbrev main_v59 : Ref sig .tc := ⟨.hbm, 93, rfl⟩
abbrev main_cst_9 : Ref sig .tc := ⟨.hbm, 94, rfl⟩
abbrev main_v60 : Ref sig .tc := ⟨.hbm, 95, rfl⟩
abbrev main_v61 : Ref sig .tc := ⟨.hbm, 96, rfl⟩

abbrev nD : Nat := 1
abbrev τ : Topo := Topo.v7x

variable {F : FTy → Type} [FloatOps F]
-- ==== Proof.KSetup.lean ====
/- The launch of the idealized kernel with its own transfers: the set-up that the body's run and the launch theorem share.
   The generated frame kit states @main around the region, the arrays at the region's entry and the windows' blocks;
   here are the kernel's own semaphore cells, the operand left in HBM and the invariant between them. -/
module

public import proofs.«01_k».proof.Proof.Gen.KernelIdeal.Frame

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- @main is the host lines before the region, the region, and the reshape after it. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2] [hostOps1] (by simp only [List.Forall]; exact ⟨hostOps0_sub, hostOps0_1_sub, hostOps0_2_sub⟩)
    (by simp only [List.Forall]; exact ⟨hostOps0_fresh, hostOps0_1_fresh, hostOps0_2_fresh⟩) main_chain

/-- The staging memrefs of the seven windows at a point. -/
abbrev ms0 (t : Fin cfg0.N) : Memref sig .tc .vmem S16x1 .i32 := win0_0.stage (cfg0.slots t 0)
abbrev ms1 (t : Fin cfg0.N) : Memref sig .tc .vmem S16x1 .i32 := win0_1.stage (cfg0.slots t 1)
abbrev ms2 (t : Fin cfg0.N) : Memref sig .tc .vmem S32x256 .f32 := win0_2.stage (cfg0.slots t 2)
abbrev ms3 (t : Fin cfg0.N) : Memref sig .tc .vmem S32x1 .f32 := win0_3.stage (cfg0.slots t 3)
abbrev ms4 (t : Fin cfg0.N) : Memref sig .tc .vmem S2x32 .f32 := win0_4.stage (cfg0.slots t 4)
abbrev ms5 (t : Fin cfg0.N) : Memref sig .tc .vmem S2x1 .f32 := win0_5.stage (cfg0.slots t 5)
abbrev ms6 (t : Fin cfg0.N) : Memref sig .tc .vmem S16x1 .f32 := win0_6.stage (cfg0.slots t 6)

/-- The ring of four slots, whole, and the operand left in HBM, whole. -/
abbrev ring : Memref sig .tc .vmem S4x4096x256 .f32 := Memref.whole cc0_scratch0
abbrev xhbm : Memref sig .tc .hbm S32768x256 .f32 := Memref.whole main_arg0
/-- The contents of a memref's buffer on core `c`, and the buffer held whole at `f`. -/
abbrev BufOf (c : Dev nD) {sp : Space} {S : Shape} {e : EltTy} (M : Memref sig .tc sp S e) : Type := Buf (Elt F) (M.view.loc (c : Thread nD τ))
abbrev heldAt (c : Dev nD) {sp : Space} {S : Shape} {e : EltTy} (M : Memref sig .tc sp S e) (f : BufOf (F := F) c M) : sProp 𝕄 :=
  M.view.loc (c : Thread nD τ) ↦{fullShare} f

/-- The kernel's own four DMA semaphore cells; none is a window's. -/
abbrev osem : Fin 4 → SemLoc sig := fun j => (![SemLoc.dma 7, SemLoc.dma 8, SemLoc.dma 9, SemLoc.dma 10] : Fin 4 → SemLoc sig) j
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0) := by
  rw [Pipeline.ownSems0_eq_of_list c osem [0, 1, 2, 3] (by decide) (by decide)]; rfl

/-- The operands that the body moves itself: `x` alone. -/
def moved : Finset (Ref sig .tc) := {main_arg0}
theorem moved_sub : moved ⊆ Pipeline.restRefs sig spec0 := by decide
theorem moved_eq (c : Dev nD) :
    (bigSep moved (fun b => ((c : Thread nD τ).loc b) ↦{fullShare} V m c b) : sProp 𝕄) = iprop(heldAt c xhbm (V m c main_arg0)) := by
  rw [BI.bigSep_eq_bigSepL_of_eq [main_arg0] (by decide) (by decide)]; rfl
/-- The reshape after the region does not touch `x`. -/
theorem tail_but : ∀ ops ∈ ([hostOps1] : List (List (HloOp τ sig (Elt F)))), ∀ op ∈ ops,
    op.bufs ⊆ Pipeline.tailRefsBut sig Pipeline.Prefetch.none spec0 moved := by
  intro ops hops op hop
  simp only [List.mem_cons, List.mem_nil_iff, or_false] at hops
  subst hops
  refine Pipeline.sub_tailRefsBut Pipeline.Prefetch.none spec0 moved op ((List.forall_iff_forall_mem.mp hostOps1_sub) op hop) (fun j => j.elim0) ?_
  simp only [hostOps1, List.mem_cons, List.mem_nil_iff, or_false] at hop
  subst hop
  intro b hb
  simp only [moved, Finset.mem_singleton] at hb
  subst hb
  simp only [StableHlo.reshape_bufs, Finset.mem_insert, Finset.mem_singleton, not_or]
  and_intros <;> exact StableHlo.devRef_ne_of_ne (by decide)

/-- The invariant of the body, conjunct by conjunct. -/
theorem Phi_eq (c : Dev nD) :
    (Pipeline.ΦD osem spec0 moved (V m) c : sProp 𝕄)
      = iprop(iprop((∃ d, owns (c : Thread nD τ) ring fullShare d)) ∗ (∃ r, prngReg c r) ∗ iprop(semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0) ∗ iprop(heldAt c xhbm (V m c main_arg0))) := by
  rw [Pipeline.ΦD_eq, scopedRest0_eq, ownSems_eq, moved_eq]; simp only [ring, owns_whole]; try rfl

end Cert.KernelIdeal.Val

end
-- ==== Proof.Model.lean ====
/- What the idealized kernel computes, as one plain function of its operands: a step per block of rows that is the same
   for every block, folded over the eight blocks, and the closing arithmetic. -/
module

public import proofs.«01_k».proof.Proof.Gen.KernelIdeal.Skeleton

@[expose] public section

set_option maxRecDepth 16384

noncomputable section

namespace Cert.KernelIdeal.Val

open Idealize.ShloMosaic Idealize.ShloMosaic.TcCoe
open Cert.KernelIdeal Cert.KernelIdeal.Gen

variable {F : FTy → Type} [FloatOps F]

/-- The small operands as the body reads them. -/
structure Ops (F : FTy → Type) where
  start : Vec F S16x1 .i32
  stop : Vec F S16x1 .i32
  w1 : Vec F S32x256 .f32
  b1 : Vec F S32x1 .f32
  w2 : Vec F S2x32 .f32
  b2 : Vec F S2x1 .f32

variable (p : Ops F)

/-- The hidden layer of one block of rows. -/
def hidden (X : FVec F S4096x256 .f32) : FVec F S32x4096 .f32 :=
  maximumf
    (addf
      (matmul dot_S32x256_S4096x256_S32x4096_1_1_0_0_n_n none (truncf .bf16 p.w1 bitsLt_bf16_f32) (truncf .bf16 X bitsLt_bf16_f32)
        (constant S32x4096 .f32 0x00000000#32))
      (broadcastTo S32x4096 (shapeCast S32x1 p.b1 shapeCasts_S32x1_S32x1) broadcasts_S32x1_S32x4096))
    (broadcast S32x4096 (Scalar.ofBits .f32 0x00000000#32))

/-- The two scores of each row of the block: row 0 holds `z`, row 1 holds `r`. -/
def scores (X : FVec F S4096x256 .f32) : FVec F S2x4096 .f32 :=
  addf
    (matmul dot_S2x32_S32x4096_S2x4096_1_0_0_1_n_n none (shapeCast S2x32 p.w2 shapeCasts_S2x32_S2x32) (hidden p X) (constant S2x4096 .f32 0x00000000#32))
    (broadcastTo S2x4096 (shapeCast S2x1 p.b2 shapeCasts_S2x1_S2x1) broadcasts_S2x1_S2x4096)

/-- `exp z` for each row of the block, -/
def expZ (X : FVec F S4096x256 .f32) : FVec F S1x4096 .f32 :=
  exp (extractStridedSlice S1x4096 ![0, 0] (scores p X) slices_S2x4096_o0_0_S1x4096)
/-- and `exp z · r`. -/
def expZR (X : FVec F S4096x256 .f32) : FVec F S1x4096 .f32 :=
  mulf (expZ p X) (extractStridedSlice S1x4096 ![1, 0] (scores p X) slices_S2x4096_o1_0_S1x4096)

/-- For each segment, which rows of the block that starts at row `o` lie below the segment's end. -/
def below (o : BitVec 32) : IVec S16x4096 1 :=
  cmpi .slt (iota .tc S16x4096 32 [1] iota_S16x4096_d1_w32)
    (broadcastTo S16x4096 (subi (shapeCast S16x1 p.stop shapeCasts_S16x1_S16x1) (broadcast S16x1 o)) broadcasts_S16x1_S16x4096)

/-- For each segment, the sum of `e` over the rows that the mask keeps. -/
def total (M : IVec S16x4096 1) (e : FVec F S1x4096 .f32) : FVec F S16x1 .f32 :=
  shapeCast S16x1
    (multiReduction .add [1] S16
      (select M (broadcastTo S16x4096 (shapeCast S1x4096 e shapeCasts_S1x4096_S1x4096) broadcasts_S1x4096_S16x4096)
        (broadcast S16x4096 (Scalar.ofBits .f32 0x00000000#32)))
      0x00000000#32 reduces_S16x4096_S16 (.inl rfl) rfl)
    shapeCasts_S16_S16x1

/-- The running totals up to each segment's end, after the first `k` blocks. -/
def runE (X : ℕ → FVec F S4096x256 .f32) : ℕ → FVec F S16x1 .f32
  | 0 => broadcast S16x1 (Scalar.ofBits .f32 0x00000000#32)
  | k + 1 => addf (runE X k) (total (below p (BitVec.ofNat 32 (4096 * k))) (expZ p (X k)))
def runER (X : ℕ → FVec F S4096x256 .f32) : ℕ → FVec F S16x1 .f32
  | 0 => broadcast S16x1 (Scalar.ofBits .f32 0x00000000#32)
  | k + 1 => addf (runER X k) (total (below p (BitVec.ofNat 32 (4096 * k))) (expZR p (X k)))

/-- Each running total less the one before it. -/
def diffs (s : FVec F S16x1 .f32) : FVec F S16x1 .f32 :=
  subf s (concatenate S16x1 0 [⟨S1x1, broadcast S1x1 (Scalar.ofBits .f32 0x00000000#32)⟩, ⟨S15x1, extractStridedSlice S15x1 ![0, 0] s slices_S16x1_o0_0_S15x1⟩]
    concatenates_S1x1_S15x1_S16x1_d0)

/-- The quotient of the segment sums, the default where a segment is empty, scaled. -/
def closing (s n : FVec F S16x1 .f32) : FVec F S16x1 .f32 :=
  mulf (broadcast S16x1 (Scalar.ofBits .f32 0x432DB7C1#32))
    (select
      (cmpi .eq (shapeCast S16x1 p.start shapeCasts_S16x1_S16x1) (shapeCast S16x1 p.stop shapeCasts_S16x1_S16x1))
      (broadcast S16x1 (Scalar.ofBits .f32 0x40F5701C#32))
      (divf n
        (select (cmpf .oeq s (broadcast S16x1 (Scalar.ofBits .f32 0x00000000#32))) (broadcast S16x1 (Scalar.ofBits .f32 0x3F800000#32)) s)))

/-- What the body stores. -/
def output (X : ℕ → FVec F S4096x256 .f32) : FVec F S16x1 .f32 :=
  closing p (diffs (runE p X 8)) (diffs (runER p X 8))

/-- Rows `4096 k` to `4096 k + 4095` of `x` (row `0` and on for a block past the last, which no one reads). -/
def block (x : FVec F S32768x256 .f32) (k : ℕ) : FVec F S4096x256 .f32 :=
  fun j => x fun a => match a with
    | ⟨0, _⟩ => ⟨(4096 * k + (j 0).val) % 32768, Nat.mod_lt _ (by decide)⟩
    | ⟨1, _⟩ => ⟨(j 1).val, (j 1).isLt⟩

end Cert.KernelIdeal.Val

end
-- ==== Proof.Ring.lean ====
/- Reads of the ring of four slots after copies into its slots: the newest copy into a slot is what a load of the slot
   reads, and a copy into another slot is not seen. -/
module

public import proofs.«01_k».proof.Proof.Model
public import Idealize.ShloMosaic.Lib.ViewIndex
public import Idealize.ShloMosaic.Lib.Pipeline.Value
public import Idealize.ShloMosaic.Lib.Pipeline.ValueKit.Tiles

@[expose] public section

set_option maxRecDepth 16384

noncomputable section

namespace Cert.KernelIdeal.Val

open Idealize.ShloMosaic Idealize.ShloMosaic.TcCoe
open Cert.KernelIdeal Cert.KernelIdeal.Gen

variable {F : FTy → Type}

/-- A block of rows with the slot's leading unit axis put in front. -/
def asSlot (X : Vec F S4096x256 .f32) : Vec F S1x4096x256 .f32 :=
  fun i => X ((Shape.reshapeEquiv shapeCasts_S1x4096x256_S4096x256).symm i)

theorem shapeCast_asSlot (X : Vec F S4096x256 .f32) : shapeCast S4096x256 (asSlot X) shapeCasts_S1x4096x256_S4096x256 = X := by
  funext j
  simp only [shapeCast, asSlot, Equiv.symm_apply_apply]

theorem readAt_slot_same (M : Memref sig .tc .vmem S4x4096x256 .f32) (k : ℕ) (h h' : ∀ a, (![k, 0, 0] : Fin 3 → ℕ) a + S1x4096x256.size a ≤ S4x4096x256.size a)
    (hs) (hq) (f : M.view.ty.Contents (Elt F)) (X : S4096x256.Idx → Elt F .f32) :
    M.view.readAt (Elt F) (Rect.unit (s := S4x4096x256) ![k, 0, 0] S1x4096x256.size h).toLoadRect
        (View.write (Elt F) ((M.slice (Rect.unit (s := S4x4096x256) ![k, 0, 0] S1x4096x256.size h') hs).squeeze S4096x256 hq).view f X Finset.univ)
      = asSlot X := by
  have e := View.read_write_univ (v := ((M.slice (Rect.unit (s := S4x4096x256) ![k, 0, 0] S1x4096x256.size h') hs).squeeze S4096x256 hq).view) (Val := Elt F) f X
  rw [Memref.read_squeeze_slice M _ hs hq shapeCasts_S1x4096x256_S4096x256] at e
  funext i
  have := congrFun e ((Shape.reshapeEquiv shapeCasts_S1x4096x256_S4096x256).symm i)
  simpa only [shapeCast, Equiv.apply_symm_apply, asSlot] using this

/-- A copy into a squeezed slice is not seen by a load at a rectangle that shares no index with the slice's. -/
theorem readAt_of_disjoint (M : Memref sig .tc .vmem S4x4096x256 .f32) (R R' : Rect S4x4096x256) (hs) (hq) (f : M.view.ty.Contents (Elt F))
    (X : S4096x256.Idx → Elt F .f32) (hd : Disjoint R.set R'.set) :
    M.view.readAt (Elt F) R.toLoadRect (View.write (Elt F) ((M.slice R' hs).squeeze S4096x256 hq).view f X Finset.univ)
      = M.view.readAt (Elt F) R.toLoadRect f := by
  rw [View.readAt_rect, View.readAt_rect]
  refine View.read_congr fun i hi => View.write_of_not_mem _ _ _ fun hm => ?_
  rw [View.setOn_univ, Memref.set_view_squeeze] at hm
  exact Finset.disjoint_left.mp (View.disjoint_slice (v := M.view) (r := R) (r' := R') hd) hi hm

theorem readAt_slot_other (M : Memref sig .tc .vmem S4x4096x256 .f32) (k k' : ℕ) (h : ∀ a, (![k, 0, 0] : Fin 3 → ℕ) a + S1x4096x256.size a ≤ S4x4096x256.size a)
    (h' : ∀ a, (![k', 0, 0] : Fin 3 → ℕ) a + S1x4096x256.size a ≤ S4x4096x256.size a) (hs) (hq) (f : M.view.ty.Contents (Elt F)) (X : S4096x256.Idx → Elt F .f32)
    (hk : k ≠ k') :
    M.view.readAt (Elt F) (Rect.unit (s := S4x4096x256) ![k, 0, 0] S1x4096x256.size h).toLoadRect
        (View.write (Elt F) ((M.slice (Rect.unit (s := S4x4096x256) ![k', 0, 0] S1x4096x256.size h') hs).squeeze S4096x256 hq).view f X Finset.univ)
      = M.view.readAt (Elt F) (Rect.unit (s := S4x4096x256) ![k, 0, 0] S1x4096x256.size h).toLoadRect f := by
  refine readAt_of_disjoint M _ _ hs hq f X (Rect.unit_disjoint (s := S4x4096x256) (0 : Fin 3) ?_)
  have e0 : S1x4096x256.size (0 : Fin 3) = 1 := rfl
  rw [e0]
  simp only [Matrix.cons_val_zero]
  omega

/-- The rows of `x` that a copy reads out of it. -/
theorem read_rows (f : (Memref.whole main_arg0 : Memref sig .tc .hbm S32768x256 .f32).view.ty.Contents (Elt F)) (o k : ℕ)
    (h : ∀ a, (![o, 0] : Fin 2 → ℕ) a + S4096x256.size a ≤ S32768x256.size a) (hs) (hk : k < 8 ∧ o = 4096 * k) :
    View.read (Elt F) ((Memref.whole main_arg0 : Memref sig .tc .hbm S32768x256 .f32).slice (Rect.unit (s := S32768x256) ![o, 0] S4096x256.size h) hs).view f
      = block (F := F) f k := by
  funext j
  show View.ld (Val := Elt F) (e' := .f32) (S := S32768x256) f (Rect.unit (s := S32768x256) ![o, 0] S4096x256.size h) j = _
  refine View.ld_unit_apply_of (S := S32768x256) f _ _ h j _ fun a => ?_
  have h0 : (j 0).val < 4096 := (j 0).isLt
  match a with
  | ⟨0, _⟩ =>
    show (4096 * k + (j 0).val) % 32768 = o + (j 0).val
    omega
  | ⟨1, _⟩ =>
    show (j 1).val = 0 + (j 1).val
    omega

end Cert.KernelIdeal.Val

end
-- ==== Proof.KRun.lean ====
/- The body of the idealized kernel, run: from the operands' blocks and `x` in HBM it leaves `output` in the result's block. -/
module

public import proofs.«01_k».proof.Proof.KSetup
public import proofs.«01_k».proof.Proof.Ring
public import Idealize.ShloMosaic.Lib.WholeRead
public import Idealize.ShloMosaic.Lib.VecWindow

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- A load of a whole operand held at `X` reads `X`. -/
theorem readAt_all {S : Shape} {e : EltTy} {arg : Memref sig .tc .vmem S e} (h : arg.IsWhole) (X : S.Idx → Elt F e) {off : Fin S.rank → ℕ}
    (inb : ∀ a, off a + S.size a ≤ S.size a) :
    View.readAt (Elt F) arg.view (Rect.unit off S.size inb).toLoadRect (h.unread X) = X := by
  funext x
  rw [h.readAt_unread]
  refine congrArg X (funext fun a => Fin.ext ?_)
  have := inb a
  exact (Rect.idx_unit_val off S.size inb x a).trans (by omega)

local notation "𝕄" => MT nD τ sig Unit (Elt F) ℕ (Pipeline.UD sig nD τ) ℕ

set_option maxHeartbeats 1000000 in set_option sl_exec.dmaWindow true in set_option sl_exec.dmaWindowSet true in
theorem kernelRun (c : Dev nD) (arg0 : Memref sig .tc .vmem S16x1 .i32) (harg0 : arg0.IsWhole) (arg1 : Memref sig .tc .vmem S16x1 .i32) (harg1 : arg1.IsWhole) (arg3 : Memref sig .tc .vmem S32x256 .f32) (harg3 : arg3.IsWhole) (arg4 : Memref sig .tc .vmem S32x1 .f32) (harg4 : arg4.IsWhole) (arg5 : Memref sig .tc .vmem S2x32 .f32) (harg5 : arg5.IsWhole) (arg6 : Memref sig .tc .vmem S2x1 .f32) (harg6 : arg6.IsWhole) (arg7 : Memref sig .tc .vmem S16x1 .f32) (harg7 : arg7.IsWhole) (arg8 : Memref sig .tc .vmem S4x4096x256 .f32) (harg8 : arg8.IsWhole)
    (x0 : Vec F S16x1 .i32) (x1 : Vec F S16x1 .i32) (x2 : Vec F S32x256 .f32) (x3 : Vec F S32x1 .f32) (x4 : Vec F S2x32 .f32) (x5 : Vec F S2x1 .f32) (fh0 : BufOf (F := F) c xhbm) :
      ∀ (W : Waits sig Unit) (K : PUnit → sProp 𝕄),
        iprop(owns (c : Thread nD τ) arg0 fullShare x0 ∗ owns (c : Thread nD τ) arg1 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ heldAt c xhbm fh0 ∗ owes (c : Thread nD τ) 0 W
            ∗ (iprop(owns (c : Thread nD τ) arg0 fullShare x0 ∗ owns (c : Thread nD τ) arg1 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (output (⟨x0, x1, x2, x3, x4, x5⟩ : Ops F) (block (F := F) fh0)) ∗ (∃ d, owns (c : Thread nD τ) arg8 fullShare d) ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ heldAt c xhbm fh0 ∗ (∃ W', owes (c : Thread nD τ) 0 W')) -∗ K ⟨⟩))
          ⊢ wp frame (wpE (defs₀ (F := F)) Variants.none c none) Set.univ (cc0__fused_kernel arg0 harg0 arg1 harg1 (Memref.whole main_arg0) (Memref.isWhole_whole _) arg3 harg3 arg4 harg4 arg5 harg5 arg6 harg6 arg7 harg7 arg8 harg8 cc0_scratch1) K := by
    intro W K
    simp only [cc0__fused_kernel_eq_skeleton]; unfold cc0__fused_kernel_skel
    simp only [k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hq0, Hq1, Hq2, Hq3, Hh0, HW, Hk⟩
    obtain rfl := harg0.eq_unread hf0; obtain rfl := harg1.eq_unread hf1; obtain rfl := harg3.eq_unread hf2; obtain rfl := harg4.eq_unread hf3; obtain rfl := harg5.eq_unread hf4; obtain rfl := harg6.eq_unread hf5
    sl_exec
    sl_step
    have hval : k0_pay1 (kernelRun.sl.r_29 c arg1 harg1 arg3 harg3 arg4 harg4 arg5 harg5 arg6 harg6 arg8 x1 x2 x3 x4 x5 fh0 fs0) (kernelRun.sl.r_30 c arg0 harg0 arg1 harg1 x0 x1) k0_pay55 = output (⟨x0, x1, x2, x3, x4, x5⟩ : Ops F) (block (F := F) fh0) := by
      have hv :
          kernelRun.sl.v40 c arg8 fh0 fs0 = asSlot (block (F := F) fh0 0)
          ∧ kernelRun.sl.v83 c arg8 fh0 fs0 = asSlot (block (F := F) fh0 1)
          ∧ kernelRun.sl.v126 c arg8 fh0 fs0 = asSlot (block (F := F) fh0 2)
          ∧ kernelRun.sl.v169 c arg8 fh0 fs0 = asSlot (block (F := F) fh0 3)
          ∧ kernelRun.sl.v212 c arg8 fh0 fs0 = asSlot (block (F := F) fh0 4)
          ∧ kernelRun.sl.v250 c arg8 fh0 fs0 = asSlot (block (F := F) fh0 5)
          ∧ kernelRun.sl.v288 c arg8 fh0 fs0 = asSlot (block (F := F) fh0 6)
          ∧ kernelRun.sl.v326 c arg8 fh0 fs0 = asSlot (block (F := F) fh0 7) := by
        unfold kernelRun.sl.v40 kernelRun.sl.v83 kernelRun.sl.v126 kernelRun.sl.v169 kernelRun.sl.v212 kernelRun.sl.v250 kernelRun.sl.v288 kernelRun.sl.v326
        and_intros <;>
          (repeat (first | rw [readAt_slot_same] | (rw [readAt_slot_other]; rotate_left; decide))) <;>
          exact congrArg asSlot (read_rows fh0 _ _ _ _ (by decide))
      obtain ⟨hv0, hv1, hv2, hv3, hv4, hv5, hv6, hv7⟩ := hv
      delta kernelRun.sl.r_30 kernelRun.sl.r_29 kernelRun.sl.r_28 kernelRun.sl.r_27 kernelRun.sl.r_26 kernelRun.sl.r_25 kernelRun.sl.r_24 kernelRun.sl.r_23 kernelRun.sl.r_22 kernelRun.sl.r_21 kernelRun.sl.r_20 kernelRun.sl.r_19 kernelRun.sl.r_18 kernelRun.sl.r_17 kernelRun.sl.r_16 kernelRun.sl.r_15 kernelRun.sl.r_14 kernelRun.sl.r_13 kernelRun.sl.r_12 kernelRun.sl.r_11 kernelRun.sl.r_10 kernelRun.sl.r_9 kernelRun.sl.r_8 kernelRun.sl.r_7 kernelRun.sl.r_6 kernelRun.sl.r_5 kernelRun.sl.r_4 kernelRun.sl.r_3 kernelRun.sl.r_2 kernelRun.sl.r_1 kernelRun.sl.r
      rw [readAt_all harg0, readAt_all harg1, readAt_all harg3, readAt_all harg4, readAt_all harg5, readAt_all harg6, hv0, hv1, hv2, hv3, hv4, hv5, hv6, hv7]
      refine Eq.trans ?_ (congrArg (output (⟨x0, x1, x2, x3, x4, x5⟩ : Ops F)) (funext fun k => shapeCast_asSlot (block (F := F) fh0 k)))
      rfl
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      refine Eq.trans (View.read_writes_full arg7.view f6 inb_S16x1_S16x1_0_0 _ []) hval
    isplitl [HS0]
    · iexists _, _; isplitr; swap; · iexact HS0
      ipureintro; rfl
    isplitl [Hq0]; · iexact Hq0
    isplitl [Hq1]; · iexact Hq1
    isplitl [Hq2]; · iexact Hq2
    isplitl [Hq3]; · iexact Hq3
    isplitl [Hh0]; · iexact Hh0
    iexists _; iexact HW

end Cert.KernelIdeal.Val

end
-- ==== Proof.KLaunch.lean ====
/- The launch of the idealized kernel: its proof data with the result named, the body's obligation, and the run of @main:
   where the result ends, the arguments unchanged, and every semaphore counter at zero. -/
module

public import proofs.«01_k».proof.Proof.KRun

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The small operands as the region finds them. -/
def opsAt (c : Dev nD) : Ops F where
  start := V m c main_v4
  stop := V m c main_v6
  w1 := V m c main_arg2
  b1 := V m c main_v7
  w2 := V m c main_v8
  b2 := V m c main_v14

/-- What the kernel's call leaves in its result. -/
def resultAt (c : Dev nD) : FVec F S16x1 .f32 := output (opsAt m c) (block (F := F) (V m c main_arg0))

/-- The proof data of the one pipeline: the inputs' buffers stay at their blocks, the result's holds `resultAt`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => resultAt m c
  Φ _ := Pipeline.ΦD osem spec0 moved (V m) c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = resultAt m c := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

/-- The block of a window that is its whole array places each index at itself. -/
theorem rect_whole {S : Shape} {e : EltTy} {cs : CoreSpace} (arr : Memref sig .tc .hbm S e) (o sy : Bool) (st : Memref sig .tc (.core cs) ⟨S.rank, S.size⟩ e)
    (sm : DmaSem sig) (h : arr.IsWhole) (h' : st.IsWhole) (t : Fin Pipeline.Grid.none.N) (y : S.Idx) :
    (((Pipeline.Window.whole arr o sy st sm h h').rect t).emb y : S.Idx) = y := by
  refine funext fun a => Fin.ext ?_
  refine (Window.rect_emb_val_off (Pipeline.Window.whole arr o sy st sm h h') t y a).trans ?_
  show 0 * _ + _ = _
  rw [Nat.zero_mul, Nat.zero_add]

/-- So a read of it is a read of the array. -/
theorem read_whole {S : Shape} {e : EltTy} {cs : CoreSpace} (arr : Memref sig .tc .hbm S e) (o sy : Bool) (st : Memref sig .tc (.core cs) ⟨S.rank, S.size⟩ e)
    (sm : DmaSem sig) (h : arr.IsWhole) (h' : st.IsWhole) (t : Fin Pipeline.Grid.none.N) (f : arr.view.ty.Contents (Elt F)) :
    (((Pipeline.Window.whole arr o sy st sm h h').blk t).view.read (Elt F) f : S.Idx → Elt F e) = arr.view.read (Elt F) f := by
  funext y
  exact congrArg (arr.view.read (Elt F) f) (rect_whole arr o sy st sm h h' t y)

theorem iblk_all (c : Dev nD) (t : Fin cfg0.N) :
    (iblk m c 0 t : Vec F S16x1 .i32) = V m c main_v4 ∧ (iblk m c 1 t : Vec F S16x1 .i32) = V m c main_v6
      ∧ (iblk m c 2 t : Vec F S32x256 .f32) = V m c main_arg2 ∧ (iblk m c 3 t : Vec F S32x1 .f32) = V m c main_v7
      ∧ (iblk m c 4 t : Vec F S2x32 .f32) = V m c main_v8 ∧ (iblk m c 5 t : Vec F S2x1 .f32) = V m c main_v14 :=
  ⟨read_whole (Memref.whole main_v4) _ _ _ _ (Memref.isWhole_whole _) (hstage0_0 0) t _, read_whole (Memref.whole main_v6) _ _ _ _ (Memref.isWhole_whole _) (hstage0_1 0) t _,
    read_whole (Memref.whole main_arg2) _ _ _ _ (Memref.isWhole_whole _) (hstage0_2 0) t _, read_whole (Memref.whole main_v7) _ _ _ _ (Memref.isWhole_whole _) (hstage0_3 0) t _,
    read_whole (Memref.whole main_v8) _ _ _ _ (Memref.isWhole_whole _) (hstage0_4 0) t _, read_whole (Memref.whole main_v14) _ _ _ _ (Memref.isWhole_whole _) (hstage0_5 0) t _⟩

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 800000 in
/-- The body at any point: the run applies at the inputs' blocks, and what it leaves is `resultAt`. -/
theorem sound_body (c : Dev nD) (t : Fin cfg0.N) :
    bodyPre m c t ⊢ wp frame (wpE (defs₀ (F := F)) Variants.none c none) Set.univ (bodyAt0 t) (fun _ => bodyPost m c t) := by
  have hres : output (⟨iblk m c 0 t, iblk m c 1 t, iblk m c 2 t, iblk m c 3 t, iblk m c 4 t, iblk m c 5 t⟩ : Ops F) (block (F := F) (V m c main_arg0)) = resultAt m c := by
    obtain ⟨e0, e1, e2, e3, e4, e5⟩ := iblk_all m c t
    unfold resultAt opsAt
    rw [e0, e1, e2, e3, e4, e5]
  unfold bodyPre bodyPost bodyAt0
  simp only [before_0, before_1, before_2, before_3, before_4, before_5]
  rw [show (dats m 0 c).Φ t.succ = (dats m 0 c).Φ t.castSucc from rfl,
    after_0, after_1, after_2, after_3, after_4, after_5, after_6, ← hres]
  rw [show (dats m 0 c).Φ t.castSucc = Pipeline.ΦD osem spec0 moved (V m) c from rfl, Phi_eq]
  unfold Dat.owesAt Pipeline.owesWithin
  rw [show (dats m 0 c).owed t.castSucc = 0 from rfl, show (dats m 0 c).owed t.succ = 0 from rfl]
  iintro ⟨⟨HS0, Hg, ⟨Hq0, Hq1, Hq2, Hq3⟩, Hh0⟩, ⟨%W, -, HW⟩, ⟨%d0, H0⟩, ⟨%d1, H1⟩, ⟨%d2, H2⟩, ⟨%d3, H3⟩, ⟨%d4, H4⟩, ⟨%d5, H5⟩, ⟨%d6, H6⟩⟩
  iapply ((kernelRun c _ _ _ _ _ _ _ _ _ _ _ _ _ _ _ _ (iblk m c 0 t) (iblk m c 1 t) (iblk m c 2 t) (iblk m c 3 t) (iblk m c 4 t) (iblk m c 5 t) (V m c main_arg0)) W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [Hq0]; · iexact Hq0
  isplitl [Hq1]; · iexact Hq1
  isplitl [Hq2]; · iexact Hq2
  isplitl [Hq3]; · iexact Hq3
  isplitl [Hh0]; · iexact Hh0
  isplitl [HW]; · iexact HW
  iintro ⟨H0, H1, H2, H3, H4, H5, H6, HS0, Hq0, Hq1, Hq2, Hq3, Hh0, ⟨%W', HW'⟩⟩
  isplitl [HS0 Hg Hq0 Hq1 Hq2 Hq3 Hh0]
  · isplitl [HS0]
    · iexact HS0
    isplitl [Hg]
    · iexact Hg
    isplitl [Hq0 Hq1 Hq2 Hq3]
    · isplitl [Hq0]; · iexact Hq0
      isplitl [Hq1]; · iexact Hq1
      isplitl [Hq2]; · iexact Hq2
      iexact Hq3
    iexact Hh0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The lines after the region change only the last result. -/
theorem tail_keeps (c : Dev nD) (b : Ref sig .tc) (h : Proc.devRef (τ := τ) .tc main_v16 ≠ Proc.devRef .tc b) (hb : ∀ w, Pipeline.arrRef spec0 w ≠ b) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append, List.nil_append, List.Forall, StableHlo.reshape_writes, Finset.mem_singleton]
      exact fun e => h e.symm)),
    Pipeline.withArrays_of_ne _ c (V0 m c) _ b hb]

/-- The result's array after the region. -/
theorem arr_6 (c : Dev nD) : (dats m 0 c).arrAt 6 cfg0.N = resultAt m c := by
  refine (dats m 0 c).arrAt_eq_of_cover 6 (resultAt m c) (fun t _ => ?_) (fun i => ?_)
  · rw [show (dats m 0 c).flushed 6 t = (dats m 0 c).after 6 t from rfl, after_6]
    exact (read_whole (Memref.whole main_v15) _ _ _ _ (Memref.isWhole_whole _) (hstage0_6 0) t (resultAt m c)).symm
  · refine ⟨t0_0, flush0_6 t0_0, ?_⟩
    have e : ((cfg0.win 6).blk t0_0).view.emb (i : S16x1.Idx) = i := rect_whole (Memref.whole main_v15) true false (stage0_6 0) (sem0_6 0) (Memref.isWhole_whole _) (hstage0_6 0) t0_0 i
    have hm := View.emb_mem_set ((cfg0.win 6).blk t0_0).view (i : S16x1.Idx)
    rw [e] at hm
    exact hm

/-- and the last result: the reshape of it. -/
theorem tail_result (c : Dev nD) :
    Pipeline.afterTail₀ cfgs (dats m) 0 (V0 m) [hostOps1] c main_v16 = shapeCast S16 (resultAt m c) shapeCasts_S16x1_S16 := by
  unfold Pipeline.afterTail₀
  have h15 : Pipeline.withArrays spec0 c (V0 m c) (fun w => (dats m 0 c).arrAt w cfg0.N) (Proc.devRef .tc main_v15) = resultAt m c :=
    (Pipeline.withArrays_arr spec0 launch0.win.arr_inj c (V0 m c) (fun w => (dats m 0 c).arrAt w cfg0.N) 6).trans (arr_6 m c)
  rw [show ([hostOps1 (F := F)].flatten) = [StableHlo.reshape main_v15 main_v16 (rfl : (.f32 : EltTy) = .f32) shapeCasts_S16x1_S16] from rfl, StableHlo.after_cons, StableHlo.after_nil]
  refine (StableHlo.reshape_result' ..).trans ?_
  exact congrArg (fun x => shapeCast S16 x shapeCasts_S16x1_S16) h15

set_option backward.isDefEq.respectTransparency.types false in
set_option maxHeartbeats 800000 in
/-- The launch: every buffer where the pipeline and the lines around it leave it, and every counter at zero. -/
theorem run_frame : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem defs₀ Variants.none ownSemFacts moved moved_sub m ρ main
    (hbody := fun c => (body_obligation m c).loose) (hshare := fun c => (dats m 0 c).share_full fun _ => rfl)
    (howed := fun _ _ => rfl) (V₀ := V0 m) (opss := [hostOps1]) (hsub := tail_but) (hfresh := sfx_fresh) (hkeep := sfx_keeps)
    (hmain := hmainD m Variants.none) (hA := A_eq m) (hin := fun _ => .rfl) (hout := fun _ => .rfl)

/-- The launch read at the result, the arguments and the counters. -/
theorem run : θ_run defs (onTc (τ := τ) (main (F := F))) ⟨m, fun _ => 0, ρ⟩ (fun r =>
    (∀ c : Dev nD, r.2.mem ((c.tc : Thread nD τ).loc main_v16) = shapeCast S16 (resultAt m c) shapeCasts_S16x1_S16
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
    ∧ r.2.sem = fun _ => 0) := by
  refine (θ_run defs _ _).mono (fun r h => ⟨fun c => ?_, h.2⟩) (run_frame m ρ)
  have key : ∀ b : Ref sig .tc, b ∈ Pipeline.restRefs sig spec0 → Proc.devRef (τ := τ) .tc main_v16 ≠ Proc.devRef .tc b → (∀ w, Pipeline.arrRef spec0 w ≠ b) →
      r.2.mem ((c.tc : Thread nD τ).loc b) = V m c b := fun b hb hne hw => ((h.1 c).2 b hb).trans (tail_keeps m c b hne hw)
  refine ⟨((h.1 c).2 main_v16 (Pipeline.mem_restRefs_of main_v16 (by decide) (by decide))).trans (tail_result m c),
    (key main_arg0 (Pipeline.mem_restRefs_of main_arg0 (by decide) (by decide)) (StableHlo.devRef_ne_of_ne (by decide)) (by exact (by decide : ∀ w, Pipeline.arrRef spec0 w ≠ main_arg0))).trans (V_main_arg0 m c),
    (key main_arg1 (Pipeline.mem_restRefs_of main_arg1 (by decide) (by decide)) (StableHlo.devRef_ne_of_ne (by decide)) (by exact (by decide : ∀ w, Pipeline.arrRef spec0 w ≠ main_arg1))).trans (V_main_arg1 m c),
    ((h.1 c).1 2).trans (((dats m 0 c).arrAt_in 2 rfl _).trans ((A_eq m c 2).trans (V_main_arg2 m c))),
    (key main_arg3 (Pipeline.mem_restRefs_of main_arg3 (by decide) (by decide)) (StableHlo.devRef_ne_of_ne (by decide)) (by exact (by decide : ∀ w, Pipeline.arrRef spec0 w ≠ main_arg3))).trans (V_main_arg3 m c),
    (key main_arg4 (Pipeline.mem_restRefs_of main_arg4 (by decide) (by decide)) (StableHlo.devRef_ne_of_ne (by decide)) (by exact (by decide : ∀ w, Pipeline.arrRef spec0 w ≠ main_arg4))).trans (V_main_arg4 m c),
    (key main_arg5 (Pipeline.mem_restRefs_of main_arg5 (by decide) (by decide)) (StableHlo.devRef_ne_of_ne (by decide)) (by exact (by decide : ∀ w, Pipeline.arrRef spec0 w ≠ main_arg5))).trans (V_main_arg5 m c),
    (key main_arg6 (Pipeline.mem_restRefs_of main_arg6 (by decide) (by decide)) (StableHlo.devRef_ne_of_ne (by decide)) (by exact (by decide : ∀ w, Pipeline.arrRef spec0 w ≠ main_arg6))).trans (V_main_arg6 m c),
    (key main_arg7 (Pipeline.mem_restRefs_of main_arg7 (by decide) (by decide)) (StableHlo.devRef_ne_of_ne (by decide)) (by exact (by decide : ∀ w, Pipeline.arrRef spec0 w ≠ main_arg7))).trans (V_main_arg7 m c)⟩

end Cert.KernelIdeal.Val

end
-- ==== Proof.SameText.lean ====
/- The kernel and its idealization are one text: their bodies, their tables and their `main`s are the same terms, so what is
   proved of the one at every float type is proved of the other. -/
module

public import proofs.«01_k».proof.Defs
public import proofs.«01_k».proof.Proof.Gen.Kernel
public import proofs.«01_k».proof.Proof.KLaunch

@[expose] public section

set_option maxRecDepth 16384

noncomputable section

namespace Cert.SameText

open Idealize.ShloMosaic Idealize.SL.Sem

variable {F : FTy → Type} [FloatOps F]

/-- The two bodies, -/
theorem body_same : Cert.Kernel.cc0__fused_kernel (F := F) = Cert.KernelIdeal.cc0__fused_kernel (F := F) := rfl

/-- the two body tables, -/
theorem table_same : Cert.Kernel.defs₀ (F := F) = Cert.KernelIdeal.defs₀ (F := F) := by
  unfold Cert.Kernel.defs₀ Cert.KernelIdeal.defs₀
  refine congrArg (Defs.onTc (τ := Cert.Kernel.τ) (Val := Elt F)) ?_
  funext l x
  match l, x with
  | 0, (t, s) => rfl

/-- with the pipeline's own labels, -/
theorem defs_same : Cert.Kernel.defs (F := F) = Cert.KernelIdeal.defs (F := F) :=
  congrArg (Pipeline.defs Cert.Kernel.pcfgs) table_same

/-- and the two `main`s. -/
theorem main_same : Cert.Kernel.main (F := F) = Cert.KernelIdeal.main (F := F) := rfl

/-- The kernel's frame, from the run of its idealization at every float type. -/
theorem quiescent : Cert.quiescent_Kernel := fun m ρ _ => by
  rw [defs_same, main_same]
  exact (θ_run _ _ _).mono (fun r h => ⟨fun c => (h.1 c).2, h.2⟩) (Cert.KernelIdeal.Val.run (F := Bits) m ρ)

end Cert.SameText

end
-- ==== Proof.RefStages.lean ====
/- The reference's result in stages, each a plain function of the arguments it reads. -/
module

public import proofs.«01_k».proof.Proof.Gen.ReferenceIdeal.Run

@[expose] public section

set_option maxRecDepth 16384

noncomputable section

namespace Cert.ReferenceIdeal.Val

open Idealize.ShloMosaic Idealize.ShloMosaic.TcCoe
open Cert.ReferenceIdeal Cert.ReferenceIdeal.Gen

variable {F : FTy → Type} [FloatOps F]

/-- The hidden layer of every row. -/
def layer (x : FVec F S32768x256 .f32) (w : FVec F S32x256 .f32) (b : FVec F S32 .f32) : FVec F S32768x32 .f32 :=
  maximumf
    (addf (Host.dotGeneral dot_S32768x256_S256x32_S32768x32_1_0_0_1_n_n none x (transpose S256x32 [1, 0] w transposes_S32x256_S256x32_1_0))
      (broadcastInDim S32768x32 ![0, 1] bcast_S1x32_S32768x32_0_1 (broadcastInDim S1x32 ![1] bcast_S32_S1x32_1 b)))
    (broadcastInDim S32768x32 ![] bcast_S_S32768x32 (constant S_ .f32 0x00000000#32))

/-- One score of every row. -/
def score (h : FVec F S32768x32 .f32) (w : FVec F S1x32 .f32) (b : FVec F S1 .f32) : FVec F S32768 .f32 :=
  shapeCast S32768
    (addf (Host.dotGeneral dot_S32768x32_S32x1_S32768x1_1_0_0_1_n_n none h (transpose S32x1 [1, 0] w transposes_S1x32_S32x1_1_0))
      (broadcastInDim S32768x1 ![0, 1] bcast_S1x1_S32768x1_0_1 (broadcastInDim S1x1 ![1] bcast_S1_S1x1_1 b)))
    shapeCasts_S32768x1_S32768

/-- Zero, then the running sums of the lengths. -/
def bounds (n : IVec S16 32) : IVec S17 32 :=
  concatenate S17 0 [⟨S1, broadcastInDim S1 ![] bcast_S_S1 (constantI S_ 32 0#32)⟩,
    ⟨S16, Host.reduceWindow IntOp.addi ![16] ![1] ![15] ![0] n (broadcastInDim S_ ![] bcast_S_S_ (constantI S_ 32 0#32)) reduceWindows_S16_S16_w16s1p15_0 h_S_⟩]
    concatenates_S1_S16_S17_d0

/-- Where each segment starts, -/
def starts (B : IVec S17 32) : IVec S16 32 := extractStridedSlice S16 ![0] B slices_S17_S16_0
/-- and where it ends. -/
def stops (B : IVec S17 32) : IVec S16 32 := extractStridedSlice S16 ![1] B slices_S17_S16_1

/-- A row of values, one copy for every segment. -/
def spread (v : FVec F S32768 .f32) : FVec F S16x32768 .f32 :=
  broadcastInDim S16x32768 ![0, 1] bcast_S1x32768_S16x32768_0_1 (broadcastInDim S1x32768 ![1] bcast_S32768_S1x32768_1 v)
/-- A value per segment, one copy for every row. -/
def along (v : FVec F S16 .f32) : FVec F S16x32768 .f32 :=
  broadcastInDim S16x32768 ![0, 1] bcast_S16x1_S16x32768_0_1 (broadcastInDim S16x1 ![0] bcast_S16_S16x1_0 v)

/-- Which rows belong to which segment. -/
def member (s t : IVec S16 32) : IVec S16x32768 1 :=
  andi
    (cmpi .sge (broadcastInDim S16x32768 ![0, 1] bcast_S1x32768_S16x32768_0_1 (broadcastInDim S1x32768 ![1] bcast_S32768_S1x32768_1 (iotaInDim S32768 32 0)))
      (broadcastInDim S16x32768 ![0, 1] bcast_S16x1_S16x32768_0_1 (broadcastInDim S16x1 ![0] bcast_S16_S16x1_0 s)))
    (cmpi .slt (broadcastInDim S16x32768 ![0, 1] bcast_S1x32768_S16x32768_0_1 (broadcastInDim S1x32768 ![1] bcast_S32768_S1x32768_1 (iotaInDim S32768 32 0)))
      (broadcastInDim S16x32768 ![0, 1] bcast_S16x1_S16x32768_0_1 (broadcastInDim S16x1 ![0] bcast_S16_S16x1_0 t)))

/-- The scores of a segment's rows, minus infinity elsewhere. -/
def masked (M : IVec S16x32768 1) (z : FVec F S32768 .f32) : FVec F S16x32768 .f32 :=
  select M (spread z) (broadcastInDim S16x32768 ![] bcast_S_S16x32768 (id (constant S_ .f32 0xFF800000#32)))

/-- The largest score of each segment, -/
def largest (q : FVec F S16x32768 .f32) : FVec F S16 .f32 :=
  Host.reduce FloatOps.maximumf q (constant S_ .f32 0xFF800000#32) reducesTo_S16x32768_S16_d1 h_S_
/-- and zero where there is none. -/
def pivot (g : FVec F S16 .f32) : FVec F S16 .f32 :=
  select (cmpf .olt (Host.absf g) (broadcastInDim S16 ![] bcast_S_S16 (constant S_ .f32 0x7F800000#32))) g
    (broadcastInDim S16 ![] bcast_S_S16 (id (constant S_ .f32 0x00000000#32)))

/-- The exponentials of a segment's shifted scores, zero elsewhere. -/
def weights (M : IVec S16x32768 1) (q : FVec F S16x32768 .f32) (g : FVec F S16 .f32) : FVec F S16x32768 .f32 :=
  select M (Host.exp (subf q (along g))) (broadcastInDim S16x32768 ![] bcast_S_S16x32768 (id (constant S_ .f32 0x00000000#32)))

/-- Their sums over each segment, -/
def mass (e : FVec F S16x32768 .f32) : FVec F S16 .f32 :=
  Host.reduceAdd e (constant S_ .f32 0x00000000#32) reducesTo_S16x32768_S16_d1 h_S_
/-- and one where the sum is zero. -/
def safe (d : FVec F S16 .f32) : FVec F S16 .f32 :=
  select (cmpf .oeq d (broadcastInDim S16 ![] bcast_S_S16 (constant S_ .f32 0x00000000#32)))
    (broadcastInDim S16 ![] bcast_S_S16 (id (constant S_ .f32 0x3F800000#32))) d

/-- The weighted mean of `r` over each segment. -/
def mean (e : FVec F S16x32768 .f32) (d : FVec F S16 .f32) (r : FVec F S32768 .f32) : FVec F S16 .f32 :=
  mass (mulf (Host.divf e (along d)) (spread r))

/-- The default where a segment is empty, and the scale. -/
def final (s t : IVec S16 32) (v : FVec F S16 .f32) : FVec F S16 .f32 :=
  mulf (broadcastInDim S16 ![] bcast_S_S16 (constant S_ .f32 0x432DB7C1#32))
    (select (cmpi .eq s t) (broadcastInDim S16 ![] bcast_S_S16 (id (constant S_ .f32 0x40F5701C#32))) v)

/-- The weights, from the scores and the segments' members. -/
def soft (M : IVec S16x32768 1) (z : FVec F S32768 .f32) : FVec F S16x32768 .f32 :=
  weights M (masked M z) (pivot (largest (masked M z)))

/-- The result, from the scores and the bounds. -/
def answer (B : IVec S17 32) (z r : FVec F S32768 .f32) : FVec F S16 .f32 :=
  final (starts B) (stops B)
    (mean (soft (member (starts B) (stops B)) z) (safe (mass (soft (member (starts B) (stops B)) z))) r)

set_option maxHeartbeats 2000000 in
/-- The reference's result is these stages, one after the other. -/
theorem result (m : (ℓ : Loc nD τ sig) → Buf (Elt F) ℓ) (c : Dev nD) :
    Value.res_out0 m c = answer (bounds (m ((c.tc : Thread nD τ).loc main_arg1)))
      (score (layer (m ((c.tc : Thread nD τ).loc main_arg0)) (m ((c.tc : Thread nD τ).loc main_arg2)) (m ((c.tc : Thread nD τ).loc main_arg3)))
        (m ((c.tc : Thread nD τ).loc main_arg6)) (m ((c.tc : Thread nD τ).loc main_arg7)))
      (score (layer (m ((c.tc : Thread nD τ).loc main_arg0)) (m ((c.tc : Thread nD τ).loc main_arg2)) (m ((c.tc : Thread nD τ).loc main_arg3)))
        (m ((c.tc : Thread nD τ).loc main_arg4)) (m ((c.tc : Thread nD τ).loc main_arg5))) := by
  with_unfolding_all rfl

end Cert.ReferenceIdeal.Val

end
-- ==== Proof.RefValue.lean ====
/- The reference's stages, read at an index over the extended reals. -/
module

public import proofs.«01_k».proof.Proof.RefStages
public import Idealize.ShloMosaic.Lib.Pointwise
public import Idealize.ShloMosaic.Lib.IdealHost

@[expose] public section

set_option maxRecDepth 16384

noncomputable section

namespace Cert.ReferenceIdeal.Val

open Idealize.ShloMosaic Idealize.ShloMosaic.TcCoe
open Cert.ReferenceIdeal Cert.ReferenceIdeal.Gen

set_option maxHeartbeats 1000000 in
theorem layer_at (x : FVec Ideal S32768x256 .f32) (w : FVec Ideal S32x256 .f32) (b : FVec Ideal S32 .f32) (n : Fin 32768) (i : Fin 32) :
    layer x w b (ix2 n i) = max (∑ a, x (ix2 n a) * w (ix2 i a) + b (ix1 i)) 0 := by
  pointwise [layer]

set_option maxHeartbeats 1000000 in
theorem score_at (h : FVec Ideal S32768x32 .f32) (w : FVec Ideal S1x32 .f32) (b : FVec Ideal S1 .f32) (n : Fin 32768) :
    score h w b (ix1 n) = ∑ i, h (ix2 n i) * w (ix2 0 i) + b (ix1 0) := by
  pointwise [score]

theorem starts_at (B : IVec S17 32) (j : Fin 16) : starts B (ix1 j) = B (ix1 j.castSucc) := by
  pointwise [starts]
  rfl

theorem stops_at (B : IVec S17 32) (j : Fin 16) : stops B (ix1 j) = B (ix1 j.succ) := by
  pointwise [stops]
  exact congrArg (fun i => B (ix1 i)) (Fin.ext (Nat.add_comm _ _))

theorem member_at (s t : IVec S16 32) (j : Fin 16) (n : Fin 32768) :
    member s t (ix2 j n) = IntOp.andi (IntOp.cmpi .sge (BitVec.ofNat 32 n.val) (s (ix1 j))) (IntOp.cmpi .slt (BitVec.ofNat 32 n.val) (t (ix1 j))) := by
  pointwise [member]

theorem masked_at (M : IVec S16x32768 1) (z : FVec Ideal S32768 .f32) (j : Fin 16) (n : Fin 32768) :
    masked M z (ix2 j n) = Scalar.select (M (ix2 j n)) (z (ix1 n)) (Ideal.ofBits .f32 0xFF800000#32) := by
  pointwise [masked, spread, id_eq]

theorem largest_at (q : FVec Ideal S16x32768 .f32) (j : Fin 16) :
    largest q (ix1 j) = Finset.univ.fold max (Ideal.ofBits .f32 0xFF800000#32) fun n => q (ix2 j n) := by
  pointwise [largest]

theorem pivot_at (g : FVec Ideal S16 .f32) (j : Fin 16) :
    pivot g (ix1 j) = if max (g (ix1 j)) (-(g (ix1 j))) < Ideal.ofBits .f32 0x7F800000#32 then g (ix1 j) else 0 := by
  pointwise [pivot, id_eq]
  rfl

theorem weights_at (M : IVec S16x32768 1) (q : FVec Ideal S16x32768 .f32) (g : FVec Ideal S16 .f32) (j : Fin 16) (n : Fin 32768) :
    weights M q g (ix2 j n) = Scalar.select (M (ix2 j n)) (Ideal.exp (q (ix2 j n) - g (ix1 j))) 0 := by
  pointwise [weights, along, id_eq]

theorem mass_at (e : FVec Ideal S16x32768 .f32) (j : Fin 16) : mass e (ix1 j) = ∑ n, e (ix2 j n) := by
  pointwise [mass]

theorem safe_at (d : FVec Ideal S16 .f32) (j : Fin 16) : safe d (ix1 j) = if d (ix1 j) = 0 then 1 else d (ix1 j) := by
  pointwise [safe, id_eq]

theorem mean_at (e : FVec Ideal S16x32768 .f32) (d : FVec Ideal S16 .f32) (r : FVec Ideal S32768 .f32) (j : Fin 16) :
    mean e d r (ix1 j) = ∑ n, Ideal.div (e (ix2 j n)) (d (ix1 j)) * r (ix1 n) := by
  pointwise [mean, mass, along, spread]

theorem final_at (s t : IVec S16 32) (v : FVec Ideal S16 .f32) (j : Fin 16) :
    final s t v (ix1 j) = Ideal.ofBits .f32 0x432DB7C1#32 *
      Scalar.select (IntOp.cmpi .eq (s (ix1 j)) (t (ix1 j))) (Ideal.ofBits .f32 0x40F5701C#32) (v (ix1 j)) := by
  pointwise [final, id_eq]

end Cert.ReferenceIdeal.Val

end
-- ==== Proof.KValue.lean ====
/- The idealized kernel's plain function, read at an index over the extended reals. -/
module

public import proofs.«01_k».proof.Proof.KLaunch
public import Idealize.ShloMosaic.Lib.Pointwise
public import Idealize.ShloMosaic.Lib.IdealHost

@[expose] public section

set_option maxRecDepth 16384

noncomputable section

namespace Cert.KernelIdeal.Val

open Idealize.ShloMosaic Idealize.ShloMosaic.TcCoe
open Cert.KernelIdeal Cert.KernelIdeal.Gen

variable (p : Ops Ideal)

set_option maxHeartbeats 1000000 in
/-- One entry of the hidden layer. -/
theorem hidden_at (X : FVec Ideal S4096x256 .f32) (i : Fin 32) (l : Fin 4096) :
    hidden p X (ix2 i l) = max (∑ x, p.w1 (ix2 i x) * X (ix2 l x) + p.b1 (ix2 i 0)) 0 := by
  pointwise [hidden]

set_option maxHeartbeats 1000000 in
/-- One score of one row. -/
theorem scores_at (X : FVec Ideal S4096x256 .f32) (i : Fin 2) (l : Fin 4096) :
    scores p X (ix2 i l) = ∑ x, p.w2 (ix2 i x) * hidden p X (ix2 x l) + p.b2 (ix2 i 0) := by
  pointwise [scores]

/-- The exponential of a row's first score, -/
theorem expZ_at (X : FVec Ideal S4096x256 .f32) (l : Fin 4096) :
    expZ p X (ix2 0 l) = Ideal.exp (scores p X (ix2 0 l)) := by
  pointwise [expZ]

/-- and its product with the second. -/
theorem expZR_at (X : FVec Ideal S4096x256 .f32) (l : Fin 4096) :
    expZR p X (ix2 0 l) = Ideal.exp (scores p X (ix2 0 l)) * scores p X (ix2 1 l) := by
  pointwise [expZR, expZ]

set_option maxHeartbeats 1000000 in
/-- A segment's sum over one block. -/
theorem total_at (M : IVec S16x4096 1) (e : FVec Ideal S1x4096 .f32) (j : Fin 16) :
    total M e (ix2 j 0) = ∑ x, Scalar.select (M (ix2 j x)) (e (ix2 0 x)) 0 := by
  pointwise [total]

/-- Whether a row of the block lies below a segment's end. -/
theorem below_at (o : BitVec 32) (j : Fin 16) (l : Fin 4096) :
    below p o (ix2 j l) = IntOp.cmpi .slt (BitVec.ofNat 32 l.val) (IntOp.subi (p.stop (ix2 j 0)) o) := by
  pointwise [below]

/-- The first difference is the first running total; -/
theorem diffs_zero (s : FVec Ideal S16x1 .f32) : diffs s (ix2 0 0) = s (ix2 0 0) - 0 := by
  pointwise [diffs]

/-- each other one takes off the total before it. -/
theorem diffs_succ (s : FVec Ideal S16x1 .f32) (j : Fin 15) :
    diffs s (ix2 j.succ 0) = s (ix2 j.succ 0) - s (ix2 j.castSucc 0) := by
  pointwise [diffs]
  simp
  rfl

/-- The closing arithmetic of one segment. -/
theorem closing_at (s n : FVec Ideal S16x1 .f32) (j : Fin 16) :
    closing p s n (ix2 j 0) = Ideal.ofBits .f32 0x432DB7C1#32 *
      Scalar.select (IntOp.cmpi .eq (p.start (ix2 j 0)) (p.stop (ix2 j 0))) (Ideal.ofBits .f32 0x40F5701C#32)
        (Ideal.div (n (ix2 j 0)) (if s (ix2 j 0) = 0 then 1 else s (ix2 j 0))) := by
  pointwise [closing]

/-- One row of a block is a row of `x`. -/
theorem block_at (x : FVec Ideal S32768x256 .f32) (k : ℕ) (l : Fin 4096) (a : Fin 256) (n : Fin 32768) (hn : n.val = 4096 * k + l.val) :
    block x k (ix2 l a) = x (ix2 n a) := by
  unfold block
  congr 1
  funext d
  match d with
  | ⟨0, _⟩ => exact Fin.ext (by show (4096 * k + l.val) % 32768 = n.val; rw [← hn, Nat.mod_eq_of_lt n.isLt])
  | ⟨1, _⟩ => rfl

end Cert.KernelIdeal.Val

end
-- ==== Proof.KHost.lean ====
/- What the idealized kernel's operations before its call leave in the small operands. -/
module

public import proofs.«01_k».proof.Proof.KValue

@[expose] public section

set_option maxRecDepth 16384

noncomputable section

namespace Cert.KernelIdeal.Val

open Idealize.ShloMosaic Idealize.ShloMosaic.TcCoe Idealize.ShloMosaic.StableHlo
open Cert.KernelIdeal Cert.KernelIdeal.Gen

variable {F : FTy → Type} [FloatOps F]
variable (m : (ℓ : Loc nD τ sig) → Buf (Elt F) ℓ)

/-- Zero, then the running sums of the lengths. -/
def bounds (n : IVec S16 32) : IVec S17 32 :=
  concatenate S17 0 [⟨S1, broadcastInDim S1 ![] bcast_S_S1 (constantI S_ 32 0#32)⟩,
    ⟨S16, Host.reduceWindow IntOp.addi ![16] ![1] ![15] ![0] n (broadcastInDim S_ ![] bcast_S_S_ (constantI S_ 32 0#32)) reduceWindows_S16_S16_w16s1p15_0 h_S_⟩]
    concatenates_S1_S16_S17_d0

theorem V_starts (c : Dev nD) : V m c main_v4 =
    shapeCast S16x1 (extractStridedSlice S16 ![0] (bounds (m ((c : Thread nD τ).loc main_arg1))) slices_S17_S16_0) shapeCasts_S16_S16x1 := by
  simp only [V, V0, hostOps0, hostOps0_1, hostOps0_2, List.flatten_cons, List.flatten_nil, List.append_nil, List.cons_append, List.nil_append,
    TRef.binary, TRef.nullary, TRef.unary, TRef.toBuf, TRef.ofBuf, cast_eq]
  after_results_simp <;> rfl

theorem V_stops (c : Dev nD) : V m c main_v6 =
    shapeCast S16x1 (extractStridedSlice S16 ![1] (bounds (m ((c : Thread nD τ).loc main_arg1))) slices_S17_S16_1) shapeCasts_S16_S16x1 := by
  simp only [V, V0, hostOps0, hostOps0_1, hostOps0_2, List.flatten_cons, List.flatten_nil, List.append_nil, List.cons_append, List.nil_append,
    TRef.binary, TRef.nullary, TRef.unary, TRef.toBuf, TRef.ofBuf, cast_eq]
  after_results_simp <;> rfl

theorem V_b1 (c : Dev nD) : V m c main_v7 = shapeCast S32x1 (m ((c : Thread nD τ).loc main_arg3)) shapeCasts_S32_S32x1 := by
  simp only [V, V0, hostOps0, hostOps0_1, hostOps0_2, List.flatten_cons, List.flatten_nil, List.append_nil, List.cons_append, List.nil_append,
    TRef.binary, TRef.nullary, TRef.unary, TRef.toBuf, TRef.ofBuf, cast_eq]
  after_results_simp <;> rfl

theorem V_w2 (c : Dev nD) : V m c main_v8 =
    concatenate S2x32 0 [⟨S1x32, m ((c : Thread nD τ).loc main_arg6)⟩, ⟨S1x32, m ((c : Thread nD τ).loc main_arg4)⟩] concatenates_S1x32_S1x32_S2x32_d0 := by
  simp only [V, V0, hostOps0, hostOps0_1, hostOps0_2, List.flatten_cons, List.flatten_nil, List.append_nil, List.cons_append, List.nil_append,
    TRef.binary, TRef.nullary, TRef.unary, TRef.toBuf, TRef.ofBuf, cast_eq]
  after_results_simp <;> rfl

theorem V_b2 (c : Dev nD) : V m c main_v14 =
    shapeCast S2x1 (concatenate S2 0 [⟨S1, broadcastInDim S1 ![] bcast_S_S1 (shapeCast S_ (m ((c : Thread nD τ).loc main_arg7)) shapeCasts_S1_S_)⟩,
      ⟨S1, broadcastInDim S1 ![] bcast_S_S1 (shapeCast S_ (m ((c : Thread nD τ).loc main_arg5)) shapeCasts_S1_S_)⟩] concatenates_S1_S1_S2_d0) shapeCasts_S2_S2x1 := by
  simp only [V, V0, hostOps0, hostOps0_1, hostOps0_2, List.flatten_cons, List.flatten_nil, List.append_nil, List.cons_append, List.nil_append,
    TRef.binary, TRef.nullary, TRef.unary, TRef.toBuf, TRef.ofBuf, cast_eq]
  after_results_simp <;> rfl

end Cert.KernelIdeal.Val

end
-- ==== Proof.Reals.lean ====
/- The mathematics of the two programs: sums over segments of real numbers, and which extended reals are real. -/
module

public import Idealize.ShloMosaic.PureOps.Ideal
public import Idealize.ShloMosaic.Lib.IdealHost

@[expose] public section

noncomputable section

namespace Cert.SegMean

open Idealize.ShloMosaic Finset

/-! ## Real values -/

/-- An extended real that is a real number. -/
def IsReal (x : EReal) : Prop := ∃ a : ℝ, x = (a : EReal)

theorem IsReal.add {x y : EReal} : IsReal x → IsReal y → IsReal (x + y)
  | ⟨a, ha⟩, ⟨b, hb⟩ => ⟨a + b, by rw [ha, hb, EReal.coe_add]⟩

theorem IsReal.mul {x y : EReal} : IsReal x → IsReal y → IsReal (x * y)
  | ⟨a, ha⟩, ⟨b, hb⟩ => ⟨a * b, by rw [ha, hb, EReal.coe_mul]⟩

theorem IsReal.zero : IsReal 0 := ⟨0, EReal.coe_zero.symm⟩

theorem IsReal.max {x y : EReal} (hx : IsReal x) (hy : IsReal y) : IsReal (max x y) := by
  rcases max_choice x y with h | h <;> rw [h] <;> assumption

theorem IsReal.sum {ι : Type} (s : Finset ι) (f : ι → EReal) (h : ∀ i, IsReal (f i)) : IsReal (∑ i ∈ s, f i) := by
  classical
  induction s using Finset.induction_on with
  | empty => simpa using IsReal.zero
  | insert a s ha ih => rw [Finset.sum_insert ha]; exact (h a).add ih

/-- A value whose absolute value is below plus infinity is real. -/
theorem isReal_of_abs_lt {x : EReal} (h : max x (-x) < ⊤) : IsReal x := by
  induction x using EReal.rec with
  | bot => simp at h
  | coe a => exact ⟨a, rfl⟩
  | top => simp at h

/-- A sum of real values. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The quotient of two real values, the divisor not zero. -/
theorem div_real (a b : ℝ) (h : b ≠ 0) : Ideal.div (a : EReal) (b : EReal) = ((a / b : ℝ) : EReal) := by
  unfold Ideal.div
  rw [if_neg (by exact_mod_cast h), ← EReal.coe_inv, ← EReal.coe_mul, div_eq_mul_inv]

/-- The quotient by a value or, where it is zero, by one. -/
theorem div_safe (a b : ℝ) :
    Ideal.div (a : EReal) (if (b : EReal) = 0 then 1 else (b : EReal)) = ((a / (if b = 0 then 1 else b) : ℝ) : EReal) := by
  by_cases h : b = 0
  · rw [if_pos (by exact_mod_cast h), if_pos h]
    exact div_real a 1 one_ne_zero
  · rw [if_neg (by exact_mod_cast h), if_neg h]
    exact div_real a b h

/-! ## Sums over a segment -/

/-- The sum of `g` over the rows from `s` to before `t`, of the first `N`. -/
def seg (g : ℕ → ℝ) (s t N : ℕ) : ℝ := ∑ n ∈ range N, if s ≤ n ∧ n < t then g n else 0

/-- A block of `w` rows more. -/
theorem seg_add (g : ℕ → ℝ) (t N w : ℕ) :
    seg g 0 t (N + w) = seg g 0 t N + ∑ l : Fin w, if N + l.val < t then g (N + l.val) else 0 := by
  unfold seg
  rw [sum_range_add, sum_range (fun l => if 0 ≤ N + l ∧ N + l < t then g (N + l) else 0)]
  simp only [Nat.zero_le, true_and]

theorem seg_zero_end (g : ℕ → ℝ) (N : ℕ) : seg g 0 0 N = 0 := by
  unfold seg
  exact sum_eq_zero fun n _ => if_neg (by omega)

/-- A running total less an earlier one. -/
theorem seg_sub (g : ℕ → ℝ) (s t N : ℕ) (h : s ≤ t) : seg g 0 t N - seg g 0 s N = seg g s t N := by
  unfold seg
  rw [← sum_sub_distrib]
  refine sum_congr rfl fun n _ => ?_
  by_cases h1 : n < s
  · rw [if_pos (by omega), if_pos (by omega), if_neg (by omega), sub_self]
  · by_cases h2 : n < t
    · rw [if_pos (by omega), if_neg (by omega), if_pos (by omega), sub_zero]
    · rw [if_neg (by omega), if_neg (by omega), if_neg (by omega), sub_zero]

/-- Where positive values sum to zero over a segment, the segment has no row. -/
theorem seg_eq_zero (g f : ℕ → ℝ) (s t N : ℕ) (hg : ∀ n, 0 < g n) (h : seg g s t N = 0) : seg f s t N = 0 := by
  unfold seg at h ⊢
  rw [sum_eq_zero_iff_of_nonneg fun n _ => by split <;> [exact (hg n).le; exact le_rfl]] at h
  refine sum_eq_zero fun n hn => if_neg fun hm => ?_
  have := h n hn
  rw [if_pos hm] at this
  exact (hg n).ne' this

/-- The weighted mean over a segment does not change where every weight is shifted by the same amount in the exponent. -/
theorem mean_shift (z r : ℕ → ℝ) (q : ℝ) (s t N : ℕ) :
    (∑ n ∈ range N, (if s ≤ n ∧ n < t then Real.exp (z n - q) else 0)
        / (if seg (fun n => Real.exp (z n - q)) s t N = 0 then 1 else seg (fun n => Real.exp (z n - q)) s t N) * r n)
      = seg (fun n => Real.exp (z n) * r n) s t N
        / (if seg (fun n => Real.exp (z n)) s t N = 0 then 1 else seg (fun n => Real.exp (z n)) s t N) := by
  have hs : ∀ f : ℕ → ℝ, seg (fun n => Real.exp (z n - q) * f n) s t N = seg (fun n => Real.exp (z n) * f n) s t N * Real.exp (-q) := by
    intro f
    unfold seg
    rw [sum_mul]
    refine sum_congr rfl fun n _ => ?_
    split
    · dsimp only
      rw [sub_eq_add_neg, Real.exp_add]; ring
    · rw [zero_mul]
  have h1 := hs fun _ => 1
  simp only [mul_one] at h1
  have hnum : ∀ d : ℝ, (∑ n ∈ range N, (if s ≤ n ∧ n < t then Real.exp (z n - q) else 0) / d * r n)
      = seg (fun n => Real.exp (z n - q) * r n) s t N / d := by
    intro d
    unfold seg
    rw [sum_div]
    refine sum_congr rfl fun n _ => ?_
    split
    · ring
    · simp
  have hq := (Real.exp_pos (-q)).ne'
  rw [hnum, hs, h1]
  by_cases h0 : seg (fun n => Real.exp (z n)) s t N = 0
  · rw [seg_eq_zero _ (fun n => Real.exp (z n) * r n) s t N (fun n => Real.exp_pos _) h0]
    simp
  · rw [if_neg (mul_ne_zero h0 hq), if_neg h0, mul_div_mul_right _ _ hq]

/-! ## The segments' bounds -/

/-- The sum of the first `i` lengths. -/
def edge (f : ℕ → ℕ) (i : ℕ) : ℕ := ((List.range i).map f).sum

theorem edge_zero (f : ℕ → ℕ) : edge f 0 = 0 := rfl
theorem edge_succ (f : ℕ → ℕ) (i : ℕ) : edge f (i + 1) = edge f i + f i := by
  unfold edge
  exact List.sum_range_succ f i

theorem edge_le (f : ℕ → ℕ) (hf : ∀ i, f i < 134217728) (i : ℕ) : edge f i ≤ 134217727 * i := by
  induction i with
  | zero => exact le_rfl
  | succ i ih => rw [edge_succ]; have := hf i; omega

/-- A small natural number's word, read as an integer. -/
theorem toInt_small (t : ℕ) (ht : t < 2147483648) : (BitVec.ofNat 32 t).toInt = t := by
  rw [BitVec.toInt_eq_toNat_cond, BitVec.toNat_ofNat, Nat.mod_eq_of_lt (by omega), if_pos (by omega)]

/-! ## Words and bits -/

/-- The bit pattern the programs compare with is plus infinity. -/
theorem inf_bits : Ideal.ofBits .f32 0x7F800000#32 = (⊤ : EReal) := by
  simp [Ideal.ofBits, Ideal.ieee]

/-- Two bits whose `and` is 1 are both 1. -/
theorem both {x y : BitVec 1} (h : IntOp.andi x y = 1#1) : x = 1#1 ∧ y = 1#1 := by
  revert x y; decide

end Cert.SegMean

end
-- ==== Proof.Bounds.lean ====
/- The segments' bounds, as natural numbers. -/
module

public import proofs.«01_k».proof.Proof.KHost
public import proofs.«01_k».proof.Proof.Reals
public import Idealize.ShloMosaic.Lib.Routing.Ops

@[expose] public section

set_option maxRecDepth 16384

noncomputable section

namespace Cert.KernelIdeal.Val

open Idealize.ShloMosaic Idealize.ShloMosaic.TcCoe
open Cert.KernelIdeal Cert.KernelIdeal.Gen Cert.SegMean

/-- Bound `i` is the sum of the first `i` lengths. -/
theorem bounds_at (n : IVec S16 32) (f : ℕ → ℕ) (hf : ∀ i : Fin 16, n (ix1 i) = BitVec.ofNat 32 (f i.val)) (i : Fin 17) :
    bounds n (ix1 i) = BitVec.ofNat 32 (edge f i.val) := by
  pointwise [bounds]
  split
  · next h => rw [show i.val = 0 by omega]; rfl
  · next h =>
    refine (Idealize.ShloMosaic.Routing.cumsum1 (N := 16) (Nm1 := 15) rfl n f hf
      (broadcastInDim S_ ![] bcast_S_S_ (constantI S_ 32 0#32)) rfl reduceWindows_S16_S16_w16s1p15_0 h_S_ ⟨i.val - 1, by omega⟩).trans ?_
    show BitVec.ofNat 32 (edge f (i.val - 1 + 1)) = _
    rw [Nat.sub_add_cancel (by omega)]

/-- The lengths as natural numbers. -/
def lengths (n : IVec S16 32) (i : ℕ) : ℕ := if h : i < 16 then (n (ix1 ⟨i, h⟩)).toNat else 0

/-- Bound `i`, off the lengths themselves. -/
theorem bounds_edge (n : IVec S16 32) (i : Fin 17) : bounds n (ix1 i) = BitVec.ofNat 32 (edge (lengths n) i.val) :=
  bounds_at n _ (fun i => by unfold lengths; rw [dif_pos i.isLt, BitVec.ofNat_toNat, BitVec.setWidth_eq]) i

/-- The bounds stay far below what the words hold. -/
theorem edge_small (n : IVec S16 32) (hn : ∀ i, (n i).toNat < 134217728) (i : Fin 17) : edge (lengths n) i.val < 2147483648 := by
  have h := edge_le (lengths n) (fun i => by unfold lengths; split <;> [exact hn _; decide]) i.val
  have := i.isLt
  omega

end Cert.KernelIdeal.Val

end
-- ==== Proof.KSum.lean ====
/- The idealized kernel's plain function where the scores are real: the weighted mean over each segment. -/
module

public import proofs.«01_k».proof.Proof.Bounds

@[expose] public section

set_option maxRecDepth 16384

noncomputable section

namespace Cert.KernelIdeal.Val

open Idealize.ShloMosaic Idealize.ShloMosaic.TcCoe
open Cert.KernelIdeal Cert.KernelIdeal.Gen Cert.SegMean

variable (p : Ops Ideal)

/-- A row of block `k` lies below the segment's end just when its number among all the rows does. -/
theorem below_iff (j : Fin 16) (l : Fin 4096) (k t : ℕ) (hk : k < 8) (ht : t < 2147483648) (hp : p.stop (ix2 j 0) = BitVec.ofNat 32 t) :
    below p (BitVec.ofNat 32 (4096 * k)) (ix2 j l) = 1 ↔ 4096 * k + l.val < t := by
  have hl := l.isLt
  rw [below_at, hp]
  refine IntOp.cmpi_slt.trans ?_
  show (BitVec.ofNat 32 l.val).toInt < (BitVec.ofNat 32 t - BitVec.ofNat 32 (4096 * k)).toInt ↔ _
  rw [BitVec.toInt_sub, toInt_small _ (by omega), toInt_small _ ht, toInt_small _ (by omega), Int.bmod_eq_of_le (by omega) (by omega)]
  omega

/-- A segment's sum over one block of real values. -/
theorem total_real (e : FVec Ideal S1x4096 .f32) (g : ℕ → ℝ) (j : Fin 16) (k t : ℕ) (hk : k < 8) (ht : t < 2147483648)
    (hp : p.stop (ix2 j 0) = BitVec.ofNat 32 t) (he : ∀ l : Fin 4096, e (ix2 0 l) = ((g (4096 * k + l.val) : ℝ) : EReal)) :
    total (below p (BitVec.ofNat 32 (4096 * k))) e (ix2 j 0)
      = ((∑ l : Fin 4096, if 4096 * k + l.val < t then g (4096 * k + l.val) else 0 : ℝ) : EReal) := by
  rw [total_at, ← coe_sum]
  refine Finset.sum_congr rfl fun l _ => ?_
  unfold Scalar.select
  by_cases h : 4096 * k + l.val < t
  · rw [if_pos ((below_iff p j l k t hk ht hp).mpr h), if_pos h, he]
  · rw [if_neg (mt (below_iff p j l k t hk ht hp).mp h), if_neg h, EReal.coe_zero]

/-- The running totals after `k` blocks of real values: the sums over the rows so far below each segment's end. -/
theorem run_real (s : ℕ → FVec Ideal S16x1 .f32) (e : ℕ → FVec Ideal S1x4096 .f32) (g : ℕ → ℝ) (j : Fin 16) (t : ℕ) (ht : t < 2147483648)
    (hp : p.stop (ix2 j 0) = BitVec.ofNat 32 t) (h0 : s 0 = broadcast S16x1 (Scalar.ofBits .f32 0x00000000#32))
    (hs : ∀ k, s (k + 1) = addf (s k) (total (below p (BitVec.ofNat 32 (4096 * k))) (e k)))
    (he : ∀ k, k < 8 → ∀ l : Fin 4096, e k (ix2 0 l) = ((g (4096 * k + l.val) : ℝ) : EReal)) (k : ℕ) (hk : k ≤ 8) :
    s k (ix2 j 0) = ((seg g 0 t (4096 * k) : ℝ) : EReal) := by
  induction k with
  | zero =>
    rw [h0]
    show Ideal.ofBits .f32 0#32 = _
    rw [Ideal.ofBits_zero_f32]
    exact EReal.coe_zero.symm
  | succ k ih =>
    rw [hs]
    show s k (ix2 j 0) + total _ _ (ix2 j 0) = _
    rw [ih (by omega), total_real p (e k) g j k t (by omega) ht hp (he k (by omega)), ← EReal.coe_add, ← seg_add]
    rfl

/-- The differences of the running totals: the sums over each segment. -/
theorem diffs_real (s : FVec Ideal S16x1 .f32) (g : ℕ → ℝ) (f : ℕ → ℕ) (N : ℕ)
    (hs : ∀ j : Fin 16, s (ix2 j 0) = ((seg g 0 (edge f (j.val + 1)) N : ℝ) : EReal)) (j : Fin 16) :
    diffs s (ix2 j 0) = ((seg g (edge f j.val) (edge f (j.val + 1)) N : ℝ) : EReal) := by
  refine Fin.cases ?_ (fun j => ?_) j
  · rw [diffs_zero, hs, sub_zero]
    rfl
  · rw [diffs_succ, hs, hs, ← EReal.coe_sub]
    exact congrArg _ (seg_sub g _ _ N ((Nat.le_add_right _ _).trans_eq (edge_succ f (j.val + 1)).symm))

/-- The scaled mean of `r` over rows `s` to before `t`, the weights the exponentials of `z`; the default where the bounds' words agree. -/
def meanOf (z r : ℕ → ℝ) (s t : ℕ) : EReal :=
  Ideal.ofBits .f32 0x432DB7C1#32 *
    Scalar.select (IntOp.cmpi .eq (BitVec.ofNat 32 s) (BitVec.ofNat 32 t)) (Ideal.ofBits .f32 0x40F5701C#32)
      ((seg (fun n => Real.exp (z n) * r n) s t 32768
        / (if seg (fun n => Real.exp (z n)) s t 32768 = 0 then 1 else seg (fun n => Real.exp (z n)) s t 32768) : ℝ) : EReal)

/-- What the kernel stores, where the scores are real. -/
theorem output_real (X : ℕ → FVec Ideal S4096x256 .f32) (z r : ℕ → ℝ) (f : ℕ → ℕ) (hf : ∀ i : Fin 17, edge f i.val < 2147483648)
    (hstart : ∀ j : Fin 16, p.start (ix2 j 0) = BitVec.ofNat 32 (edge f j.val))
    (hstop : ∀ j : Fin 16, p.stop (ix2 j 0) = BitVec.ofNat 32 (edge f (j.val + 1)))
    (hz : ∀ k, k < 8 → ∀ l : Fin 4096, scores p (X k) (ix2 0 l) = ((z (4096 * k + l.val) : ℝ) : EReal))
    (hr : ∀ k, k < 8 → ∀ l : Fin 4096, scores p (X k) (ix2 1 l) = ((r (4096 * k + l.val) : ℝ) : EReal)) (j : Fin 16) :
    output p X (ix2 j 0) = meanOf z r (edge f j.val) (edge f (j.val + 1)) := by
  have hE : ∀ j : Fin 16, runE p X 8 (ix2 j 0) = ((seg (fun n => Real.exp (z n)) 0 (edge f (j.val + 1)) 32768 : ℝ) : EReal) := fun j =>
    run_real p (runE p X) (fun k => expZ p (X k)) _ j _ (hf j.succ) (hstop j) rfl (fun _ => rfl)
      (fun k hk l => by rw [expZ_at, hz k hk, Ideal.exp_coe]) 8 le_rfl
  have hER : ∀ j : Fin 16, runER p X 8 (ix2 j 0) = ((seg (fun n => Real.exp (z n) * r n) 0 (edge f (j.val + 1)) 32768 : ℝ) : EReal) := fun j =>
    run_real p (runER p X) (fun k => expZR p (X k)) _ j _ (hf j.succ) (hstop j) rfl (fun _ => rfl)
      (fun k hk l => by rw [expZR_at, hz k hk, hr k hk, Ideal.exp_coe, ← EReal.coe_mul]) 8 le_rfl
  unfold output meanOf
  rw [closing_at, hstart, hstop, diffs_real _ _ f 32768 hE, diffs_real _ _ f 32768 hER, div_safe]

end Cert.KernelIdeal.Val

end
-- ==== Proof.RefSum.lean ====
/- The reference's stages where the scores are real: the weighted mean over each segment. -/
module

public import proofs.«01_k».proof.Proof.RefValue
public import proofs.«01_k».proof.Proof.KSum

@[expose] public section

set_option maxRecDepth 16384

noncomputable section

namespace Cert.ReferenceIdeal.Val

open Idealize.ShloMosaic Idealize.ShloMosaic.TcCoe
open Cert.ReferenceIdeal Cert.ReferenceIdeal.Gen Cert.SegMean

/-- The reference's bounds are the kernel's. -/
theorem bounds_edge (n : IVec S16 32) (i : Fin 17) :
    bounds n (ix1 i) = BitVec.ofNat 32 (edge (Cert.KernelIdeal.Val.lengths n) i.val) :=
  Cert.KernelIdeal.Val.bounds_edge n i

/-- The pivot is real whatever the largest score is. -/
theorem pivot_real (g : FVec Ideal S16 .f32) (j : Fin 16) : IsReal (pivot g (ix1 j)) := by
  rw [pivot_at]
  split
  · next h => exact isReal_of_abs_lt (inf_bits ▸ h)
  · exact IsReal.zero

/-- A row belongs to a segment just when its number lies between the bounds. -/
theorem member_iff (s t : IVec S16 32) (j : Fin 16) (n : Fin 32768) (a b : ℕ) (ha : a < 2147483648) (hb : b < 2147483648)
    (hs : s (ix1 j) = BitVec.ofNat 32 a) (ht : t (ix1 j) = BitVec.ofNat 32 b) : member s t (ix2 j n) = 1 ↔ a ≤ n.val ∧ n.val < b := by
  have hn := n.isLt
  have h1 := IntOp.cmpi_sge (x := BitVec.ofNat 32 n.val) (y := BitVec.ofNat 32 a)
  have h2 := IntOp.cmpi_slt (x := BitVec.ofNat 32 n.val) (y := BitVec.ofNat 32 b)
  rw [toInt_small _ (by omega), toInt_small _ (by omega)] at h1 h2
  rw [member_at, hs, ht]
  constructor
  · intro h
    obtain ⟨h3, h4⟩ := both h
    have := h1.mp h3
    have := h2.mp h4
    omega
  · rintro ⟨h3, h4⟩
    rw [h1.mpr (by omega), h2.mpr (by omega)]
    rfl

/-- The weights where the scores are real. -/
theorem soft_real (M : IVec S16x32768 1) (zv : FVec Ideal S32768 .f32) (z : ℕ → ℝ) (hz : ∀ n : Fin 32768, zv (ix1 n) = ((z n.val : ℝ) : EReal))
    (j : Fin 16) (a b : ℕ) (hM : ∀ n : Fin 32768, M (ix2 j n) = 1 ↔ a ≤ n.val ∧ n.val < b) :
    ∃ q : ℝ, ∀ n : Fin 32768, soft M zv (ix2 j n) = ((if a ≤ n.val ∧ n.val < b then Real.exp (z n.val - q) else 0 : ℝ) : EReal) := by
  obtain ⟨q, hq⟩ := pivot_real (largest (masked M zv)) j
  refine ⟨q, fun n => ?_⟩
  unfold soft
  rw [weights_at, masked_at, hq, hz]
  unfold Scalar.select
  by_cases h : a ≤ n.val ∧ n.val < b
  · rw [if_pos ((hM n).mpr h), if_pos ((hM n).mpr h), if_pos h, ← EReal.coe_sub, Ideal.exp_coe]
  · rw [if_neg (mt (hM n).mp h), if_neg h, EReal.coe_zero]

/-- The reference's result, where the scores are real. -/
theorem answer_real (B : IVec S17 32) (zv rv : FVec Ideal S32768 .f32) (z r : ℕ → ℝ) (f : ℕ → ℕ) (hf : ∀ i : Fin 17, edge f i.val < 2147483648)
    (hB : ∀ i : Fin 17, B (ix1 i) = BitVec.ofNat 32 (edge f i.val)) (hz : ∀ n : Fin 32768, zv (ix1 n) = ((z n.val : ℝ) : EReal))
    (hr : ∀ n : Fin 32768, rv (ix1 n) = ((r n.val : ℝ) : EReal)) (j : Fin 16) :
    answer B zv rv (ix1 j) = Cert.KernelIdeal.Val.meanOf z r (edge f j.val) (edge f (j.val + 1)) := by
  have hs : starts B (ix1 j) = BitVec.ofNat 32 (edge f j.val) := (starts_at B j).trans (hB _)
  have ht : stops B (ix1 j) = BitVec.ofNat 32 (edge f (j.val + 1)) := (stops_at B j).trans (hB _)
  obtain ⟨q, hq⟩ := soft_real (member (starts B) (stops B)) zv z hz j _ _ fun n =>
    member_iff _ _ j n _ _ (hf j.castSucc) (hf j.succ) hs ht
  have hmass : mass (soft (member (starts B) (stops B)) zv) (ix1 j)
      = ((seg (fun n => Real.exp (z n - q)) (edge f j.val) (edge f (j.val + 1)) 32768 : ℝ) : EReal) := by
    rw [mass_at, Finset.sum_congr rfl fun n _ => hq n, coe_sum]
    unfold seg
    rw [Finset.sum_range]
    rfl
  have hmean : mean (soft (member (starts B) (stops B)) zv) (safe (mass (soft (member (starts B) (stops B)) zv))) rv (ix1 j)
      = ((seg (fun n => Real.exp (z n) * r n) (edge f j.val) (edge f (j.val + 1)) 32768
        / (if seg (fun n => Real.exp (z n)) (edge f j.val) (edge f (j.val + 1)) 32768 = 0 then 1
          else seg (fun n => Real.exp (z n)) (edge f j.val) (edge f (j.val + 1)) 32768) : ℝ) : EReal) := by
    rw [mean_at, ← mean_shift z r q, Finset.sum_range, ← coe_sum]
    refine Finset.sum_congr rfl fun n _ => ?_
    rw [hq, hr, safe_at, hmass, div_safe, ← EReal.coe_mul]
    rfl
  unfold answer Cert.KernelIdeal.Val.meanOf
  rw [final_at, hs, ht, hmean]

end Cert.ReferenceIdeal.Val

end
-- ==== Proof.Pre.lean ====
/- What the precondition says of each argument. -/
module

public import proofs.«01_k».proof.Pre_in_range
public import proofs.«01_k».proof.Proof.Reals
public import Idealize.ShloMosaic.Lib.Pointwise
public import Idealize.ShloMosaic.Lib.ReduceAll
public import Idealize.ShloMosaic.Lib.Affine

@[expose] public section

set_option maxRecDepth 16384

noncomputable section

namespace Cert.Pre_in_range.Val

open Idealize.ShloMosaic Cert.SegMean Cert.Pre_in_range

variable [Facts]

/-- Every entry of an array that passes the finiteness test is real. -/
theorem real_of_test {s : Shape} {axes : List (Fin s.rank)} (a : FVec Ideal s .f32) (hb : S_.BroadcastsInDim s (![] : Fin 0 → Fin s.rank))
    (h : s.ReducesTo axes S_) (hu : 0 < S_.numel) (j : S_.Idx)
    (e : Host.reduce IntOp.andi (cmpf .olt (Host.absf a) (broadcastInDim s ![] hb (constant S_ .f32 0x7F800000#32))) (constantI S_ 1 1#1) h hu j = 1#1)
    (i : s.Idx) : IsReal (a i) := by
  have : Subsingleton S_.Idx := inferInstance
  have h1 := Host.reduce_andi_all _ _ h hu j e i
  have h2 : max (a i) (-(a i)) < Ideal.ofBits .f32 0x7F800000#32 := by
    have h3 : BitVec.ofBool (decide (max (a i) (-(a i)) < Ideal.ofBits .f32 0x7F800000#32)) = 1#1 := h1
    by_contra hc
    rw [decide_eq_false hc] at h3
    exact absurd h3 (by decide)
  exact isReal_of_abs_lt (inf_bits ▸ h2)

structure InRange (x : FVec Ideal S32768x256 .f32) (n : IVec S16 32) (w1 : FVec Ideal S32x256 .f32) (b1 : FVec Ideal S32 .f32)
    (wr : FVec Ideal S1x32 .f32) (br : FVec Ideal S1 .f32) (wz : FVec Ideal S1x32 .f32) (bz : FVec Ideal S1 .f32) : Prop where
  x : ∀ i, IsReal (x i)
  w1 : ∀ i, IsReal (w1 i)
  b1 : ∀ i, IsReal (b1 i)
  wr : ∀ i, IsReal (wr i)
  br : ∀ i, IsReal (br i)
  wz : ∀ i, IsReal (wz i)
  bz : ∀ i, IsReal (bz i)
  n : ∀ i, (n i).toNat < 134217728

theorem inRange (x : FVec Ideal S32768x256 .f32) (n : IVec S16 32) (w1 : FVec Ideal S32x256 .f32) (b1 : FVec Ideal S32 .f32)
    (wr : FVec Ideal S1x32 .f32) (br : FVec Ideal S1 .f32) (wz : FVec Ideal S1x32 .f32) (bz : FVec Ideal S1 .f32)
    (j : S_.Idx) (h : fn x n w1 b1 wr br wz bz j = 1#1) : InRange x n w1 b1 wr br wz bz := by
  dsimp only [fn, fn_part1, fn_part2] at h
  obtain ⟨h, hn⟩ := both h
  obtain ⟨h, h7⟩ := both h
  obtain ⟨h, h6⟩ := both h
  obtain ⟨h, h5⟩ := both h
  obtain ⟨h, h4⟩ := both h
  obtain ⟨h, h3⟩ := both h
  obtain ⟨h0, h2⟩ := both h
  refine ⟨real_of_test x _ _ _ j h0, real_of_test w1 _ _ _ j h2, real_of_test b1 _ _ _ j h3, real_of_test wr _ _ _ j h4,
    real_of_test br _ _ _ j h5, real_of_test wz _ _ _ j h6, real_of_test bz _ _ _ j h7, fun i => ?_⟩
  have : Subsingleton S_.Idx := inferInstance
  obtain ⟨hg, hl⟩ := both (Host.reduce_andi_all _ _ _ _ j hn i)
  have hg := IntOp.cmpi_sge.mp hg
  have hl := IntOp.cmpi_slt.mp hl
  change (0#32).toInt ≤ (n i).toInt at hg
  change (n i).toInt < (134217728#32).toInt at hl
  rw [show (0#32).toInt = 0 from rfl, BitVec.toInt_eq_toNat_cond] at hg
  rw [show (134217728#32).toInt = 134217728 from rfl, BitVec.toInt_eq_toNat_cond] at hl
  have := (n i).isLt
  split at hg <;> split at hl <;> omega

end Cert.Pre_in_range.Val

end
-- ==== Proof.Agree.lean ====
/- The kernel's result and the reference's result are the same function of the arguments, where the arguments are in range. -/
module

public import proofs.«01_k».proof.Proof.RefSum
public import proofs.«01_k».proof.Proof.Pre

@[expose] public section

set_option maxRecDepth 16384

noncomputable section

namespace Cert.KernelIdeal.Val

open Idealize.ShloMosaic Idealize.ShloMosaic.TcCoe
open Cert.KernelIdeal Cert.KernelIdeal.Gen Cert.SegMean

/-! ## The small operands off the arguments -/

/-- The small operands as functions of the arguments. -/
def opsOf (n : IVec S16 32) (w1 : FVec Ideal S32x256 .f32) (b1 : FVec Ideal S32 .f32) (wr : FVec Ideal S1x32 .f32) (br : FVec Ideal S1 .f32)
    (wz : FVec Ideal S1x32 .f32) (bz : FVec Ideal S1 .f32) : Ops Ideal where
  start := shapeCast S16x1 (extractStridedSlice S16 ![0] (bounds n) slices_S17_S16_0) shapeCasts_S16_S16x1
  stop := shapeCast S16x1 (extractStridedSlice S16 ![1] (bounds n) slices_S17_S16_1) shapeCasts_S16_S16x1
  w1 := w1
  b1 := shapeCast S32x1 b1 shapeCasts_S32_S32x1
  w2 := concatenate S2x32 0 [⟨S1x32, wz⟩, ⟨S1x32, wr⟩] concatenates_S1x32_S1x32_S2x32_d0
  b2 := shapeCast S2x1 (concatenate S2 0 [⟨S1, broadcastInDim S1 ![] bcast_S_S1 (shapeCast S_ bz shapeCasts_S1_S_)⟩,
    ⟨S1, broadcastInDim S1 ![] bcast_S_S1 (shapeCast S_ br shapeCasts_S1_S_)⟩] concatenates_S1_S1_S2_d0) shapeCasts_S2_S2x1

theorem opsAt_eq (m : (ℓ : Loc nD τ sig) → Buf (Elt Ideal) ℓ) (c : Dev nD) :
    opsAt m c = opsOf (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) := by
  unfold opsAt opsOf
  rw [V_starts, V_stops, V_main_arg2, V_b1, V_w2, V_b2]

section Reads

variable (n : IVec S16 32) (w1 : FVec Ideal S32x256 .f32) (b1 : FVec Ideal S32 .f32) (wr : FVec Ideal S1x32 .f32) (br : FVec Ideal S1 .f32)
  (wz : FVec Ideal S1x32 .f32) (bz : FVec Ideal S1 .f32)

theorem start_at (j : Fin 16) : (opsOf n w1 b1 wr br wz bz).start (ix2 j 0) = bounds n (ix1 j.castSucc) := by
  pointwise [opsOf]
  rfl
theorem stop_at (j : Fin 16) : (opsOf n w1 b1 wr br wz bz).stop (ix2 j 0) = bounds n (ix1 j.succ) := by
  pointwise [opsOf]
  exact congrArg (fun i => bounds n (ix1 i)) (Fin.ext (Nat.add_comm _ _))
theorem b1_at (i : Fin 32) : (opsOf n w1 b1 wr br wz bz).b1 (ix2 i 0) = b1 (ix1 i) := by
  pointwise [opsOf]
theorem w2_z (i : Fin 32) : (opsOf n w1 b1 wr br wz bz).w2 (ix2 0 i) = wz (ix2 0 i) := by
  pointwise [opsOf]
theorem w2_r (i : Fin 32) : (opsOf n w1 b1 wr br wz bz).w2 (ix2 1 i) = wr (ix2 0 i) := by
  pointwise [opsOf]
theorem b2_z : (opsOf n w1 b1 wr br wz bz).b2 (ix2 0 0) = bz (ix1 0) := by
  pointwise [opsOf]
theorem b2_r : (opsOf n w1 b1 wr br wz bz).b2 (ix2 1 0) = br (ix1 0) := by
  pointwise [opsOf]

/-! ## The scores -/

variable (x : FVec Ideal S32768x256 .f32)

/-- The hidden layer of a block is the reference's, the product's factors the other way round. -/
theorem hidden_agree (i : Fin 32) (k : ℕ) (l : Fin 4096) (a : Fin 32768) (ha : a.val = 4096 * k + l.val) :
    hidden (opsOf n w1 b1 wr br wz bz) (block x k) (ix2 i l) = Cert.ReferenceIdeal.Val.layer x w1 b1 (ix2 a i) := by
  rw [hidden_at, Cert.ReferenceIdeal.Val.layer_at, b1_at]
  refine congrArg (fun s => max (s + b1 (ix1 i)) 0) (Finset.sum_congr rfl fun d _ => ?_)
  rw [block_at x k l d a ha]
  exact mul_comm _ _

/-- The first score is the reference's `z`, -/
theorem z_agree (k : ℕ) (l : Fin 4096) (a : Fin 32768) (ha : a.val = 4096 * k + l.val) :
    scores (opsOf n w1 b1 wr br wz bz) (block x k) (ix2 0 l)
      = Cert.ReferenceIdeal.Val.score (Cert.ReferenceIdeal.Val.layer x w1 b1) wz bz (ix1 a) := by
  rw [scores_at, Cert.ReferenceIdeal.Val.score_at, b2_z]
  refine congrArg (· + bz (ix1 0)) (Finset.sum_congr rfl fun d _ => ?_)
  rw [hidden_agree n w1 b1 wr br wz bz x d k l a ha, w2_z]
  exact mul_comm _ _

/-- and the second its `r`. -/
theorem r_agree (k : ℕ) (l : Fin 4096) (a : Fin 32768) (ha : a.val = 4096 * k + l.val) :
    scores (opsOf n w1 b1 wr br wz bz) (block x k) (ix2 1 l)
      = Cert.ReferenceIdeal.Val.score (Cert.ReferenceIdeal.Val.layer x w1 b1) wr br (ix1 a) := by
  rw [scores_at, Cert.ReferenceIdeal.Val.score_at, b2_r]
  refine congrArg (· + br (ix1 0)) (Finset.sum_congr rfl fun d _ => ?_)
  rw [hidden_agree n w1 b1 wr br wz bz x d k l a ha, w2_r]
  exact mul_comm _ _

/-- A score of real arguments is real. -/
theorem score_real (w : FVec Ideal S1x32 .f32) (b : FVec Ideal S1 .f32) (hx : ∀ i, IsReal (x i)) (hw1 : ∀ i, IsReal (w1 i))
    (hb1 : ∀ i, IsReal (b1 i)) (hw : ∀ i, IsReal (w i)) (hb : ∀ i, IsReal (b i)) (a : Fin 32768) :
    IsReal (Cert.ReferenceIdeal.Val.score (Cert.ReferenceIdeal.Val.layer x w1 b1) w b (ix1 a)) := by
  rw [Cert.ReferenceIdeal.Val.score_at]
  refine (IsReal.sum _ _ fun i => IsReal.mul ?_ (hw _)).add (hb _)
  rw [Cert.ReferenceIdeal.Val.layer_at]
  exact ((IsReal.sum _ _ fun d => (hx _).mul (hw1 _)).add (hb1 _)).max IsReal.zero

/-- Real entries of a vector of all the rows, as a function of the row's number. -/
theorem real_rows (v : FVec Ideal (⟨1, ![32768]⟩ : Shape) .f32) (h : ∀ a : Fin 32768, IsReal (v (ix1 a))) :
    ∃ g : ℕ → ℝ, ∀ a : Fin 32768, v (ix1 a) = ((g a.val : ℝ) : EReal) := by
  choose g hg using h
  refine ⟨fun i => if hi : i < 32768 then g ⟨i, hi⟩ else 0, fun a => ?_⟩
  rw [hg a]
  simp only [a.isLt, dif_pos]

/-- The two programs' results, segment by segment. -/
theorem agree (h : Cert.Pre_in_range.Val.InRange x n w1 b1 wr br wz bz) (j : Fin 16) :
    output (opsOf n w1 b1 wr br wz bz) (block x) (ix2 j 0)
      = Cert.ReferenceIdeal.Val.answer (Cert.ReferenceIdeal.Val.bounds n)
          (Cert.ReferenceIdeal.Val.score (Cert.ReferenceIdeal.Val.layer x w1 b1) wz bz)
          (Cert.ReferenceIdeal.Val.score (Cert.ReferenceIdeal.Val.layer x w1 b1) wr br) (ix1 j) := by
  obtain ⟨z, hz⟩ := real_rows _ (score_real w1 b1 x wz bz h.x h.w1 h.b1 h.wz h.bz)
  obtain ⟨r, hr⟩ := real_rows _ (score_real w1 b1 x wr br h.x h.w1 h.b1 h.wr h.br)
  have he := edge_small n h.n
  rw [Cert.ReferenceIdeal.Val.answer_real _ _ _ z r (lengths n) he (Cert.ReferenceIdeal.Val.bounds_edge n) hz hr j]
  refine output_real _ (block x) z r (lengths n) he (fun j => (start_at n w1 b1 wr br wz bz j).trans (bounds_edge n _))
    (fun j => (stop_at n w1 b1 wr br wz bz j).trans (bounds_edge n _)) (fun k hk l => ?_) (fun k hk l => ?_) j
  · exact (z_agree n w1 b1 wr br wz bz x k l ⟨4096 * k + l.val, by omega⟩ rfl).trans (hz _)
  · exact (r_agree n w1 b1 wr br wz bz x k l ⟨4096 * k + l.val, by omega⟩ rfl).trans (hr _)

end Reads

/-- The two programs' results from memories that hold the same arguments, those in range. -/
theorem results (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (h : Cert.Pre_in_range.Val.InRange (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)))
    (e0 : m' ((c.tc : Thread Cert.ReferenceIdeal.nD Cert.ReferenceIdeal.τ).loc Cert.ReferenceIdeal.main_arg0) = m ((c.tc : Thread nD τ).loc main_arg0))
    (e1 : m' ((c.tc : Thread Cert.ReferenceIdeal.nD Cert.ReferenceIdeal.τ).loc Cert.ReferenceIdeal.main_arg1) = m ((c.tc : Thread nD τ).loc main_arg1))
    (e2 : m' ((c.tc : Thread Cert.ReferenceIdeal.nD Cert.ReferenceIdeal.τ).loc Cert.ReferenceIdeal.main_arg2) = m ((c.tc : Thread nD τ).loc main_arg2))
    (e3 : m' ((c.tc : Thread Cert.ReferenceIdeal.nD Cert.ReferenceIdeal.τ).loc Cert.ReferenceIdeal.main_arg3) = m ((c.tc : Thread nD τ).loc main_arg3))
    (e4 : m' ((c.tc : Thread Cert.ReferenceIdeal.nD Cert.ReferenceIdeal.τ).loc Cert.ReferenceIdeal.main_arg4) = m ((c.tc : Thread nD τ).loc main_arg4))
    (e5 : m' ((c.tc : Thread Cert.ReferenceIdeal.nD Cert.ReferenceIdeal.τ).loc Cert.ReferenceIdeal.main_arg5) = m ((c.tc : Thread nD τ).loc main_arg5))
    (e6 : m' ((c.tc : Thread Cert.ReferenceIdeal.nD Cert.ReferenceIdeal.τ).loc Cert.ReferenceIdeal.main_arg6) = m ((c.tc : Thread nD τ).loc main_arg6))
    (e7 : m' ((c.tc : Thread Cert.ReferenceIdeal.nD Cert.ReferenceIdeal.τ).loc Cert.ReferenceIdeal.main_arg7) = m ((c.tc : Thread nD τ).loc main_arg7)) :
    Cert.ReferenceIdeal.Value.res_main_v61 m' c = shapeCast S16 (resultAt m c) shapeCasts_S16x1_S16 := by
  refine (Cert.ReferenceIdeal.Val.result m' c).trans ?_
  rw [e0, e1, e2, e3, e4, e5, e6, e7]
  have hk : ∀ j : Fin 16, shapeCast S16 (resultAt m c) shapeCasts_S16x1_S16 (ix1 j) = resultAt m c (ix2 j 0) := fun j => by
    pointwise
  funext i
  idx_vars i
  refine Eq.trans ?_ (hk _).symm
  unfold resultAt
  rw [opsAt_eq, V_main_arg0]
  exact (agree _ _ _ _ _ _ _ _ h _).symm

end Cert.KernelIdeal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_in_range
public import proofs.«01_k».proof.Proof.SameText
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel's frame at exact arithmetic: arguments as they were, every counter at zero. -/
theorem frame_kernel : Cert.quiescent_KernelIdeal := fun m ρ _ =>
  (θ_run _ _ _).mono (fun _ h => ⟨fun c => (h.1 c).2, h.2⟩) (Cert.KernelIdeal.Val.run (F := Ideal) m ρ)

/-- The reference's frame: its run leaves the arguments, and it declares no counter. -/
theorem frame_reference : Cert.quiescent_ReferenceIdeal := fun m ρ _ =>
  (θ_run _ _ _).mono (fun r h => ⟨fun c => (h c).2, sem_eq_zero_of_no_sems rfl r.2⟩) (Cert.ReferenceIdeal.Value.run (F := Ideal) m ρ)

/-- The kernel's result is the reference's, at exact arithmetic and arguments in range. -/
theorem value : Cert.algebraic_KernelIdeal_ReferenceIdeal_pre_in_range := fun m g m' g' hpre hargs =>
  ⟨fun c => shapeCast Cert.KernelIdeal.S16 (Cert.KernelIdeal.Val.resultAt (F := Ideal) m c) Cert.KernelIdeal.Gen.shapeCasts_S16x1_S16,
    (θ_run _ _ _).mono (fun _ h => h.1) (Cert.KernelIdeal.Val.run (F := Ideal) m g),
    (θ_run _ _ _).mono
      (fun _ h c => by
        obtain ⟨e0, e1, e2, e3, e4, e5, e6, e7⟩ := hargs c
        exact ⟨(h c).1.trans (Cert.KernelIdeal.Val.results m m' c
          (Cert.Pre_in_range.Val.inRange _ _ _ _ _ _ _ _ ValueIdx.ix0 (congrFun (hpre c) ValueIdx.ix0)) e0 e1 e2 e3 e4 e5 e6 e7), (h c).2⟩)
      (Cert.ReferenceIdeal.Value.run (F := Ideal) m' g')⟩

theorem claim : Cert.Claim := ⟨Cert.Kernel.Gen.facts, Cert.KernelIdeal.Gen.facts, Cert.ReferenceIdeal.Gen.facts, Cert.Pre_in_range.Gen.facts,
  Cert.SameText.quiescent, frame_kernel, fun m ρ _ => frame_kernel m ρ trivial, frame_reference, fun m ρ _ => frame_reference m ρ trivial, trivial,
  value⟩

end Cert.Proof

end
